-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S48x2048x1280 : Shape := ⟨3, ![48, 2048, 1280]⟩
abbrev S48x2048 : Shape := ⟨2, ![48, 2048]⟩
abbrev S1280 : Shape := ⟨1, ![1280]⟩
abbrev S3 : Shape := ⟨1, ![3]⟩
abbrev S3x48x2048 : Shape := ⟨3, ![3, 48, 2048]⟩
abbrev S1 : Shape := ⟨1, ![1]⟩
abbrev S_ : Shape := ⟨0, ![]⟩

class Facts : Prop where
  slices_S3_S1_0 : S3.Slices ![0] S1
  shapeCasts_S1_S_ : S1.ShapeCasts S_
  slices_S3_S1_1 : S3.Slices ![1] S1
  slices_S3_S1_2 : S3.Slices ![2] S1
  bitsLt_bf16_f32 : FTy.bits .bf16 < FTy.bits .f32
  bcast_S_S48x2048x1280 : S_.BroadcastsInDim S48x2048x1280 (![] : Fin 0 → Fin S48x2048x1280.rank)
  reducesTo_S48x2048x1280_S_d0_1_2 : S48x2048x1280.ReducesTo [0, 1, 2] S_
  h_S_ : 0 < S_.numel
  bcast_S_S48x2048 : S_.BroadcastsInDim S48x2048 (![] : Fin 0 → Fin S48x2048.rank)
  reducesTo_S48x2048_S_d0_1 : S48x2048.ReducesTo [0, 1] S_
  bcast_S_S1280 : S_.BroadcastsInDim S1280 (![] : Fin 0 → Fin S1280.rank)
  reducesTo_S1280_S_d0 : S1280.ReducesTo [0] S_
  bcast_S_S3 : S_.BroadcastsInDim S3 (![] : Fin 0 → Fin S3.rank)
  reducesTo_S3_S_d0 : S3.ReducesTo [0] S_
  bcast_S_S3x48x2048 : S_.BroadcastsInDim S3x48x2048 (![] : Fin 0 → Fin S3x48x2048.rank)
  reducesTo_S3x48x2048_S_d0_1_2 : S3x48x2048.ReducesTo [0, 1, 2] S_

variable [Facts]

def fn_part2 {F : FTy → Type} [FloatOps F] (main_arg6 : FVec F S3x48x2048 .f32) (main_arg7 : FVec F S3x48x2048 .f32) (main_v8 : FVec F S_ .f32) (main_v34 : IVec S_ 1) (main_v35 : FVec F S3 .f32) (main_cst_9 : FVec F S_ .f32) : IVec S_ 1 :=
  let main_v36 : FVec F S3 .f32 := broadcastInDim S3 ![] bcast_S_S3 main_cst_9
  let main_v37 : IVec S3 1 := cmpf .olt main_v35 main_v36
  let main_c_10 : IVec S_ 1 := constantI S_ 1 1#1
  let main_v38 : IVec S_ 1 := (fun x v => Host.reduce IntOp.andi x v reducesTo_S3_S_d0 h_S_) main_v37 main_c_10
  let main_v39 : IVec S_ 1 := andi main_v34 main_v38
  let main_v40 : FVec F S3x48x2048 .f32 := Host.absf main_arg6
  let main_cst_11 : FVec F S_ .f32 := constant S_ .f32 0x7F800000#32
  let main_v41 : FVec F S3x48x2048 .f32 := broadcastInDim S3x48x2048 ![] bcast_S_S3x48x2048 main_cst_11
  let main_v42 : IVec S3x48x2048 1 := cmpf .olt main_v40 main_v41
  let main_c_12 : IVec S_ 1 := constantI S_ 1 1#1
  let main_v43 : IVec S_ 1 := (fun x v => Host.reduce IntOp.andi x v reducesTo_S3x48x2048_S_d0_1_2 h_S_) main_v42 main_c_12
  let main_v44 : IVec S_ 1 := andi main_v39 main_v43
  let main_v45 : FVec F S3x48x2048 .f32 := Host.absf main_arg7
  let main_cst_13 : FVec F S_ .f32 := constant S_ .f32 0x7F800000#32
  let main_v46 : FVec F S3x48x2048 .f32 := broadcastInDim S3x48x2048 ![] bcast_S_S3x48x2048 main_cst_13
  let main_v47 : IVec S3x48x2048 1 := cmpf .olt main_v45 main_v46
  let main_c_14 : IVec S_ 1 := constantI S_ 1 1#1
  let main_v48 : IVec S_ 1 := (fun x v => Host.reduce IntOp.andi x v reducesTo_S3x48x2048_S_d0_1_2 h_S_) main_v47 main_c_14
  let main_v49 : IVec S_ 1 := andi main_v44 main_v48
  let main_cst_15 : FVec F S_ .f32 := constant S_ .f32 0x00000000#32
  let main_v50 : IVec S_ 1 := cmpf .une main_v8 main_cst_15
  let main_v51 : IVec S_ 1 := andi main_v49 main_v50
  main_v51

def fn_part1 {F : FTy → Type} [FloatOps F] (main_arg2 : FVec F S48x2048 .f32) (main_arg3 : FVec F S48x2048 .f32) (main_arg4 : FVec F S1280 .f32) (main_arg5 : FVec F S3 .f32) (main_arg6 : FVec F S3x48x2048 .f32) (main_arg7 : FVec F S3x48x2048 .f32) (main_v8 : FVec F S_ .f32) (main_v13 : IVec S_ 1) (main_v18 : IVec S_ 1) : IVec S_ 1 :=
  let main_v19 : IVec S_ 1 := andi main_v13 main_v18
  let main_v20 : FVec F S48x2048 .f32 := Host.absf main_arg2
  let main_cst_3 : FVec F S_ .f32 := constant S_ .f32 0x7F800000#32
  let main_v21 : FVec F S48x2048 .f32 := broadcastInDim S48x2048 ![] bcast_S_S48x2048 main_cst_3
  let main_v22 : IVec S48x2048 1 := cmpf .olt main_v20 main_v21
  let main_c_4 : IVec S_ 1 := constantI S_ 1 1#1
  let main_v23 : IVec S_ 1 := (fun x v => Host.reduce IntOp.andi x v reducesTo_S48x2048_S_d0_1 h_S_) main_v22 main_c_4
  let main_v24 : IVec S_ 1 := andi main_v19 main_v23
  let main_v25 : FVec F S48x2048 .f32 := Host.absf main_arg3
  let main_cst_5 : FVec F S_ .f32 := constant S_ .f32 0x7F800000#32
  let main_v26 : FVec F S48x2048 .f32 := broadcastInDim S48x2048 ![] bcast_S_S48x2048 main_cst_5
  let main_v27 : IVec S48x2048 1 := cmpf .olt main_v25 main_v26
  let main_c_6 : IVec S_ 1 := constantI S_ 1 1#1
  let main_v28 : IVec S_ 1 := (fun x v => Host.reduce IntOp.andi x v reducesTo_S48x2048_S_d0_1 h_S_) main_v27 main_c_6
  let main_v29 : IVec S_ 1 := andi main_v24 main_v28
  let main_v30 : FVec F S1280 .f32 := Host.absf main_arg4
  let main_cst_7 : FVec F S_ .f32 := constant S_ .f32 0x7F800000#32
  let main_v31 : FVec F S1280 .f32 := broadcastInDim S1280 ![] bcast_S_S1280 main_cst_7
  let main_v32 : IVec S1280 1 := cmpf .olt main_v30 main_v31
  let main_c_8 : IVec S_ 1 := constantI S_ 1 1#1
  let main_v33 : IVec S_ 1 := (fun x v => Host.reduce IntOp.andi x v reducesTo_S1280_S_d0 h_S_) main_v32 main_c_8
  let main_v34 : IVec S_ 1 := andi main_v29 main_v33
  let main_v35 : FVec F S3 .f32 := Host.absf main_arg5
  let main_cst_9 : FVec F S_ .f32 := constant S_ .f32 0x7F800000#32
  fn_part2 (F := F) main_arg6 main_arg7 main_v8 main_v34 main_v35 main_cst_9

def fn {F : FTy → Type} [FloatOps F] (main_arg0 : FVec F S48x2048x1280 .bf16) (main_arg1 : FVec F S48x2048x1280 .bf16) (main_arg2 : FVec F S48x2048 .f32) (main_arg3 : FVec F S48x2048 .f32) (main_arg4 : FVec F S1280 .f32) (main_arg5 : FVec F S3 .f32) (main_arg6 : FVec F S3x48x2048 .f32) (main_arg7 : FVec F S3x48x2048 .f32) : IVec S_ 1 :=
  let main_v0 : FVec F S1 .f32 := (extractStridedSlice S1 ![0] · slices_S3_S1_0) main_arg5
  let main_v1 : FVec F S_ .f32 := shapeCast S_ main_v0 shapeCasts_S1_S_
  let main_v2 : FVec F S1 .f32 := (extractStridedSlice S1 ![1] · slices_S3_S1_1) main_arg5
  let main_v3 : FVec F S_ .f32 := shapeCast S_ main_v2 shapeCasts_S1_S_
  let main_v4 : FVec F S_ .f32 := addf main_v1 main_v3
  let main_v5 : FVec F S1 .f32 := (extractStridedSlice S1 ![2] · slices_S3_S1_2) main_arg5
  let main_v6 : FVec F S_ .f32 := shapeCast S_ main_v5 shapeCasts_S1_S_
  let main_v7 : FVec F S_ .f32 := addf main_v4 main_v6
  let main_cst : FVec F S_ .f32 := constant S_ .f32 0x44A00000#32
  let main_v8 : FVec F S_ .f32 := addf main_v7 main_cst
  let main_v9 : FVec F S48x2048x1280 .f32 := (extf .f32 · bitsLt_bf16_f32) main_arg0
  let main_v10 : FVec F S48x2048x1280 .f32 := Host.absf main_v9
  let main_cst_0 : FVec F S_ .f32 := constant S_ .f32 0x7F800000#32
  let main_v11 : FVec F S48x2048x1280 .f32 := broadcastInDim S48x2048x1280 ![] bcast_S_S48x2048x1280 main_cst_0
  let main_v12 : IVec S48x2048x1280 1 := cmpf .olt main_v10 main_v11
  let main_c : IVec S_ 1 := constantI S_ 1 1#1
  let main_v13 : IVec S_ 1 := (fun x v => Host.reduce IntOp.andi x v reducesTo_S48x2048x1280_S_d0_1_2 h_S_) main_v12 main_c
  let main_v14 : FVec F S48x2048x1280 .f32 := (extf .f32 · bitsLt_bf16_f32) main_arg1
  let main_v15 : FVec F S48x2048x1280 .f32 := Host.absf main_v14
  let main_cst_1 : FVec F S_ .f32 := constant S_ .f32 0x7F800000#32
  let main_v16 : FVec F S48x2048x1280 .f32 := broadcastInDim S48x2048x1280 ![] bcast_S_S48x2048x1280 main_cst_1
  let main_v17 : IVec S48x2048x1280 1 := cmpf .olt main_v15 main_v16
  let main_c_2 : IVec S_ 1 := constantI S_ 1 1#1
  let main_v18 : IVec S_ 1 := (fun x v => Host.reduce IntOp.andi x v reducesTo_S48x2048x1280_S_d0_1_2 h_S_) main_v17 main_c_2
  fn_part1 (F := F) main_arg2 main_arg3 main_arg4 main_arg5 main_arg6 main_arg7 main_v8 main_v13 main_v18
-- ==== Kernel.lean ====
abbrev S48x2048x1280 : Shape := ⟨3, ![48, 2048, 1280]⟩
abbrev S48x2048 : Shape := ⟨2, ![48, 2048]⟩
abbrev S1280 : Shape := ⟨1, ![1280]⟩
abbrev S3 : Shape := ⟨1, ![3]⟩
abbrev S3x48x2048 : Shape := ⟨3, ![3, 48, 2048]⟩
abbrev S1x1280 : Shape := ⟨2, ![1, 1280]⟩
abbrev S10x48x2048 : Shape := ⟨3, ![10, 48, 2048]⟩
abbrev S8x128x1280 : Shape := ⟨3, ![8, 128, 1280]⟩
abbrev S8x128 : Shape := ⟨2, ![8, 128]⟩
abbrev S3x8x128 : Shape := ⟨3, ![3, 8, 128]⟩
abbrev S10x8x128 : Shape := ⟨3, ![10, 8, 128]⟩
abbrev S8x128x128 : Shape := ⟨3, ![8, 128, 128]⟩
abbrev S8x1280 : Shape := ⟨2, ![8, 1280]⟩
abbrev S1 : Shape := ⟨1, ![1]⟩
abbrev S1x128 : Shape := ⟨2, ![1, 128]⟩
abbrev S128x128 : Shape := ⟨2, ![128, 128]⟩
abbrev S1x128x128 : Shape := ⟨3, ![1, 128, 128]⟩
abbrev S1x64x128 : Shape := ⟨3, ![1, 64, 128]⟩
abbrev S64x128 : Shape := ⟨2, ![64, 128]⟩
abbrev S8x8x128 : Shape := ⟨3, ![8, 8, 128]⟩
abbrev S4x128 : Shape := ⟨2, ![4, 128]⟩
abbrev S1x128x1280 : Shape := ⟨3, ![1, 128, 1280]⟩
abbrev S128x1280 : Shape := ⟨2, ![128, 1280]⟩
abbrev S128 : Shape := ⟨1, ![128]⟩
abbrev S1x8x128 : Shape := ⟨3, ![1, 8, 128]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S1x32x1 : Shape := ⟨3, ![1, 32, 1]⟩
abbrev S256x32x1 : Shape := ⟨3, ![256, 32, 1]⟩
abbrev S16x128 : Shape := ⟨2, ![16, 128]⟩
abbrev S256x16x128 : Shape := ⟨3, ![256, 16, 128]⟩
abbrev S1x16x128 : Shape := ⟨3, ![1, 16, 128]⟩
abbrev S1x1x128 : Shape := ⟨3, ![1, 1, 128]⟩

abbrev nBuf : Space → Nat
  | .hbm => 13
  | .vmem => 29
  | .smem => 1
  | _ => 0

abbrev bufTy : (tb : Table) → Fin (tcTables nBuf tb) → BufTy
  | .hbm, ⟨0, _⟩ => ⟨S48x2048x1280, .bf16⟩
  | .hbm, ⟨1, _⟩ => ⟨S48x2048x1280, .bf16⟩
  | .hbm, ⟨2, _⟩ => ⟨S48x2048, .f32⟩
  | .hbm, ⟨3, _⟩ => ⟨S48x2048, .f32⟩
  | .hbm, ⟨4, _⟩ => ⟨S1280, .f32⟩
  | .hbm, ⟨5, _⟩ => ⟨S3, .f32⟩
  | .hbm, ⟨6, _⟩ => ⟨S3x48x2048, .f32⟩
  | .hbm, ⟨7, _⟩ => ⟨S3x48x2048, .f32⟩
  | .hbm, ⟨8, _⟩ => ⟨S1x1280, .f32⟩
  | .hbm, ⟨9, _⟩ => ⟨S48x2048x1280, .fp8e5m2⟩
  | .hbm, ⟨10, _⟩ => ⟨S10x48x2048, .f32⟩
  | .hbm, ⟨11, _⟩ => ⟨S1x1280, .f32⟩
  | .hbm, ⟨12, _⟩ => ⟨S1x1280, .f32⟩
  | .local _ .vmem, ⟨0, _⟩ => ⟨S8x128x1280, .bf16⟩
  | .local _ .vmem, ⟨1, _⟩ => ⟨S8x128x1280, .bf16⟩
  | .local _ .vmem, ⟨2, _⟩ => ⟨S8x128x1280, .bf16⟩
  | .local _ .vmem, ⟨3, _⟩ => ⟨S8x128x1280, .bf16⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x1280, .f32⟩
  | .local _ .vmem, ⟨9, _⟩ => ⟨S3x8x128, .f32⟩
  | .local _ .vmem, ⟨10, _⟩ => ⟨S3x8x128, .f32⟩
  | .local _ .vmem, ⟨11, _⟩ => ⟨S3x8x128, .f32⟩
  | .local _ .vmem, ⟨12, _⟩ => ⟨S3x8x128, .f32⟩
  | .local _ .vmem, ⟨13, _⟩ => ⟨S8x128x1280, .fp8e5m2⟩
  | .local _ .vmem, ⟨14, _⟩ => ⟨S8x128x1280, .fp8e5m2⟩
  | .local _ .vmem, ⟨15, _⟩ => ⟨S10x8x128, .f32⟩
  | .local _ .vmem, ⟨16, _⟩ => ⟨S10x8x128, .f32⟩
  | .local _ .vmem, ⟨17, _⟩ => ⟨S1x1280, .f32⟩
  | .local _ .vmem, ⟨18, _⟩ => ⟨S1x1280, .f32⟩
  | .local _ .vmem, ⟨19, _⟩ => ⟨S8x128x1280, .f32⟩
  | .local _ .vmem, ⟨20, _⟩ => ⟨S8x128x1280, .f32⟩
  | .local _ .vmem, ⟨21, _⟩ => ⟨S8x128x128, .f32⟩
  | .local _ .vmem, ⟨22, _⟩ => ⟨S8x128x128, .f32⟩
  | .local _ .vmem, ⟨23, _⟩ => ⟨S8x128x128, .f32⟩
  | .local _ .vmem, ⟨24, _⟩ => ⟨S8x128x128, .f32⟩
  | .local _ .vmem, ⟨25, _⟩ => ⟨S8x128x128, .f32⟩
  | .local _ .vmem, ⟨26, _⟩ => ⟨S8x128x128, .f32⟩
  | .local _ .vmem, ⟨27, _⟩ => ⟨S8x1280, .f32⟩
  | .local _ .vmem, ⟨28, _⟩ => ⟨S8x1280, .f32⟩
  | .local _ .smem, ⟨0, _⟩ => ⟨S3, .f32⟩
  | _, _ => ⟨S48x2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![96], ![false]⟩

@[reducible] def k0_t1_loop : Scf.Loop 32 :=
  let c0_i32_24 : BitVec 32 := 0#32
  let c16_i32 : BitVec 32 := 16#32
  let v67 : BitVec 32 := Scalar.addi c0_i32_24 c16_i32
  let c1_i32 : BitVec 32 := 1#32
  ⟨c0_i32_24, v67, c1_i32⟩
def k0_mult1 (k0_t1 : Fin k0_t1_loop.trips) : BitVec 32 :=
  let c0_i32_24 : BitVec 32 := 0#32
  let c1_i32 : BitVec 32 := 1#32
  let arg23 : BitVec 32 := Scf.iv c0_i32_24 c1_i32 k0_t1
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  v924
def k0_off1 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v926 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v927 : Index := Scalar.indexCast v925
  let c0_555 : Index := 0#32
  ![v926.toNat, v927.toNat, 0]
def k0_off2 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v930 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v931 : Index := Scalar.indexCast v925
  let c0_556 : Index := 0#32
  ![v930.toNat, v931.toNat, 0]
def k0_off3 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v965 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v966 : Index := Scalar.indexCast v925
  let c128 : Index := 128#32
  ![v965.toNat, v966.toNat, 128]
def k0_off4 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1002 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1003 : Index := Scalar.indexCast v925
  let c256 : Index := 256#32
  ![v1002.toNat, v1003.toNat, 256]
def k0_off5 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1039 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1040 : Index := Scalar.indexCast v925
  let c384 : Index := 384#32
  ![v1039.toNat, v1040.toNat, 384]
def k0_off6 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1076 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1077 : Index := Scalar.indexCast v925
  let c512 : Index := 512#32
  ![v1076.toNat, v1077.toNat, 512]
def k0_off7 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1113 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1114 : Index := Scalar.indexCast v925
  let c640 : Index := 640#32
  ![v1113.toNat, v1114.toNat, 640]
def k0_off8 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1150 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1151 : Index := Scalar.indexCast v925
  let c768 : Index := 768#32
  ![v1150.toNat, v1151.toNat, 768]
def k0_off9 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1187 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1188 : Index := Scalar.indexCast v925
  let c896 : Index := 896#32
  ![v1187.toNat, v1188.toNat, 896]
def k0_off10 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1224 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1225 : Index := Scalar.indexCast v925
  let c1024 : Index := 1024#32
  ![v1224.toNat, v1225.toNat, 1024]
def k0_off11 (k0_t1 : Fin k0_t1_loop.trips) : Fin 3 → Nat :=
  let c0_i32_24 : BitVec 32 := 0#32
  let c1_i32 : BitVec 32 := 1#32
  let arg23 : BitVec 32 := Scf.iv c0_i32_24 c1_i32 k0_t1
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c2_i32 : BitVec 32 := 2#32
  let c0_i32_545 : BitVec 32 := 0#32
  let v903 : BitVec 1 := Scalar.cmpi .sgt c2_i32 c0_i32_545
  let v904 : BitVec 32 := Scalar.extui v903
  let c0_i32_546 : BitVec 32 := 0#32
  let v905 : BitVec 1 := Scalar.cmpi .slt c2_i32 c0_i32_546
  let v906 : BitVec 32 := Scalar.extui v905
  let v907 : BitVec 32 := Scalar.subi v904 v906
  let v908 : BitVec 1 := Scalar.cmpi .ne v902 v907
  let v909 : BitVec 32 := Scalar.remsi arg23 c2_i32
  let c0_i32_547 : BitVec 32 := 0#32
  let v910 : BitVec 1 := Scalar.cmpi .ne v909 c0_i32_547
  let v911 : BitVec 1 := Scalar.andi v908 v910
  let v897 : BitVec 32 := Scalar.divsi arg23 c2_i32
  let c1_i32_548 : BitVec 32 := 1#32
  let v912 : BitVec 32 := Scalar.subi v897 c1_i32_548
  let v913 : BitVec 32 := Scalar.select v911 v912 v897
  let v1261 : Index := Scalar.indexCast v913
  let c2_i32_549 : BitVec 32 := 2#32
  let c0_i32_550 : BitVec 32 := 0#32
  let v914 : BitVec 1 := Scalar.cmpi .eq c2_i32_549 c0_i32_550
  let c1_i32_551 : BitVec 32 := 1#32
  let v915 : BitVec 32 := Scalar.select v914 c1_i32_551 c2_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c64_i32 : BitVec 32 := 64#32
  let v924 : BitVec 32 := Scalar.muli v923 c64_i32
  let v925 : BitVec 32 := v924
  let v1262 : Index := Scalar.indexCast v925
  let c1152 : Index := 1152#32
  ![v1261.toNat, v1262.toNat, 1152]
@[reducible] def k0_t2_loop : Scf.Loop 32 :=
  let c0_i32_222 : BitVec 32 := 0#32
  let c32_i32 : BitVec 32 := 32#32
  let v397 : BitVec 32 := Scalar.addi c0_i32_222 c32_i32
  let c1_i32_223 : BitVec 32 := 1#32
  ⟨c0_i32_222, v397, c1_i32_223⟩
def k0_mult2 (k0_t2 : Fin k0_t2_loop.trips) : BitVec 32 :=
  let c0_i32_222 : BitVec 32 := 0#32
  let c1_i32_223 : BitVec 32 := 1#32
  let arg23 : BitVec 32 := Scf.iv c0_i32_222 c1_i32_223 k0_t2
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  v924
def k0_off12 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v926 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v927 : Index := Scalar.indexCast v925
  let c0_556 : Index := 0#32
  ![v926.toNat, v927.toNat, 0]
def k0_off13 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v934 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v935 : Index := Scalar.indexCast v925
  let c0_558 : Index := 0#32
  ![v934.toNat, v935.toNat, 0]
def k0_off14 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v948 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v949 : Index := Scalar.indexCast v925
  let c0_561 : Index := 0#32
  ![v948.toNat, v949.toNat, 0]
def k0_off15 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v984 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v985 : Index := Scalar.indexCast v925
  let c128 : Index := 128#32
  ![v984.toNat, v985.toNat, 128]
def k0_off16 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v998 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v999 : Index := Scalar.indexCast v925
  let c1_574 : Index := 1#32
  ![v998.toNat, v999.toNat, 1]
def k0_off17 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1034 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1035 : Index := Scalar.indexCast v925
  let c256 : Index := 256#32
  ![v1034.toNat, v1035.toNat, 256]
def k0_off18 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1048 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1049 : Index := Scalar.indexCast v925
  let c2_587 : Index := 2#32
  ![v1048.toNat, v1049.toNat, 2]
def k0_off19 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1084 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1085 : Index := Scalar.indexCast v925
  let c384 : Index := 384#32
  ![v1084.toNat, v1085.toNat, 384]
def k0_off20 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1098 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1099 : Index := Scalar.indexCast v925
  let c3_600 : Index := 3#32
  ![v1098.toNat, v1099.toNat, 3]
def k0_off21 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1134 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1135 : Index := Scalar.indexCast v925
  let c512 : Index := 512#32
  ![v1134.toNat, v1135.toNat, 512]
def k0_off22 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1148 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1149 : Index := Scalar.indexCast v925
  let c4_613 : Index := 4#32
  ![v1148.toNat, v1149.toNat, 4]
def k0_off23 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1184 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1185 : Index := Scalar.indexCast v925
  let c640 : Index := 640#32
  ![v1184.toNat, v1185.toNat, 640]
def k0_off24 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1198 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1199 : Index := Scalar.indexCast v925
  let c5_626 : Index := 5#32
  ![v1198.toNat, v1199.toNat, 5]
def k0_off25 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1234 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1235 : Index := Scalar.indexCast v925
  let c768 : Index := 768#32
  ![v1234.toNat, v1235.toNat, 768]
def k0_off26 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1248 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1249 : Index := Scalar.indexCast v925
  let c6_639 : Index := 6#32
  ![v1248.toNat, v1249.toNat, 6]
def k0_off27 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1284 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1285 : Index := Scalar.indexCast v925
  let c896 : Index := 896#32
  ![v1284.toNat, v1285.toNat, 896]
def k0_off28 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1298 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1299 : Index := Scalar.indexCast v925
  let c7_652 : Index := 7#32
  ![v1298.toNat, v1299.toNat, 7]
def k0_off29 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1334 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1335 : Index := Scalar.indexCast v925
  let c1024 : Index := 1024#32
  ![v1334.toNat, v1335.toNat, 1024]
def k0_off30 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1348 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1349 : Index := Scalar.indexCast v925
  let c8_665 : Index := 8#32
  ![v1348.toNat, v1349.toNat, 8]
def k0_off31 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1384 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1385 : Index := Scalar.indexCast v925
  let c1152 : Index := 1152#32
  ![v1384.toNat, v1385.toNat, 1152]
def k0_off32 (k0_t2 : Fin k0_t2_loop.trips) : Fin 3 → Nat :=
  let c0_i32_222 : BitVec 32 := 0#32
  let c1_i32_223 : BitVec 32 := 1#32
  let arg23 : BitVec 32 := Scf.iv c0_i32_222 c1_i32_223 k0_t2
  let c0_i32_543 : BitVec 32 := 0#32
  let v898 : BitVec 1 := Scalar.cmpi .sgt arg23 c0_i32_543
  let v899 : BitVec 32 := Scalar.extui v898
  let c0_i32_544 : BitVec 32 := 0#32
  let v900 : BitVec 1 := Scalar.cmpi .slt arg23 c0_i32_544
  let v901 : BitVec 32 := Scalar.extui v900
  let v902 : BitVec 32 := Scalar.subi v899 v901
  let c4_i32 : BitVec 32 := 4#32
  let c0_i32_545 : BitVec 32 := 0#32
  let v903 : BitVec 1 := Scalar.cmpi .sgt c4_i32 c0_i32_545
  let v904 : BitVec 32 := Scalar.extui v903
  let c0_i32_546 : BitVec 32 := 0#32
  let v905 : BitVec 1 := Scalar.cmpi .slt c4_i32 c0_i32_546
  let v906 : BitVec 32 := Scalar.extui v905
  let v907 : BitVec 32 := Scalar.subi v904 v906
  let v908 : BitVec 1 := Scalar.cmpi .ne v902 v907
  let v909 : BitVec 32 := Scalar.remsi arg23 c4_i32
  let c0_i32_547 : BitVec 32 := 0#32
  let v910 : BitVec 1 := Scalar.cmpi .ne v909 c0_i32_547
  let v911 : BitVec 1 := Scalar.andi v908 v910
  let v897 : BitVec 32 := Scalar.divsi arg23 c4_i32
  let c1_i32_548 : BitVec 32 := 1#32
  let v912 : BitVec 32 := Scalar.subi v897 c1_i32_548
  let v913 : BitVec 32 := Scalar.select v911 v912 v897
  let v1398 : Index := Scalar.indexCast v913
  let c4_i32_549 : BitVec 32 := 4#32
  let c0_i32_550 : BitVec 32 := 0#32
  let v914 : BitVec 1 := Scalar.cmpi .eq c4_i32_549 c0_i32_550
  let c1_i32_551 : BitVec 32 := 1#32
  let v915 : BitVec 32 := Scalar.select v914 c1_i32_551 c4_i32_549
  let v916 : BitVec 32 := Scalar.remsi arg23 v915
  let c0_i32_553 : BitVec 32 := 0#32
  let v918 : BitVec 1 := Scalar.cmpi .slt v916 c0_i32_553
  let c0_i32_554 : BitVec 32 := 0#32
  let v919 : BitVec 1 := Scalar.cmpi .slt v915 c0_i32_554
  let v920 : BitVec 1 := Scalar.xori v918 v919
  let c0_i32_552 : BitVec 32 := 0#32
  let v917 : BitVec 1 := Scalar.cmpi .ne v916 c0_i32_552
  let v921 : BitVec 1 := Scalar.andi v920 v917
  let v922 : BitVec 32 := Scalar.addi v916 v915
  let v923 : BitVec 32 := Scalar.select v921 v922 v916
  let c32_i32_555 : BitVec 32 := 32#32
  let v924 : BitVec 32 := Scalar.muli v923 c32_i32_555
  let v925 : BitVec 32 := v924
  let v1399 : Index := Scalar.indexCast v925
  let c9_678 : Index := 9#32
  ![v1398.toNat, v1399.toNat, 9]
def k0_cond2 (i : grid0.Coords) : BitVec 1 :=
  let arg0 : BitVec 32 := BitVec.ofNat 32 (i 0).val
  let c95_i32 : BitVec 32 := 95#32
  let v894 : BitVec 1 := Scalar.cmpi .eq arg0 c95_i32
  let v895 : BitVec 32 := Scalar.extui v894
  let c0_i32_542 : BitVec 32 := 0#32
  let v896 : BitVec 1 := Scalar.cmpi .ne v895 c0_i32_542
  v896

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x1280 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S48x2048x1280 : Shape := ⟨3, ![48, 2048, 1280]⟩
abbrev S48x2048 : Shape := ⟨2, ![48, 2048]⟩
abbrev S1280 : Shape := ⟨1, ![1280]⟩
abbrev S3 : Shape := ⟨1, ![3]⟩
abbrev S3x48x2048 : Shape := ⟨3, ![3, 48, 2048]⟩
abbrev S48x2048x1 : Shape := ⟨3, ![48, 2048, 1]⟩
abbrev S1x1x1280 : Shape := ⟨3, ![1, 1, 1280]⟩
abbrev S_ : Shape := ⟨0, ![]⟩
abbrev S1 : Shape := ⟨1, ![1]⟩
abbrev S1x48x2048 : Shape := ⟨3, ![1, 48, 2048]⟩
abbrev S48x2048x10x128 : Shape := ⟨4, ![48, 2048, 10, 128]⟩
abbrev S48x2048x10 : Shape := ⟨3, ![48, 2048, 10]⟩
abbrev S48x2048x10x1 : Shape := ⟨4, ![48, 2048, 10, 1]⟩
abbrev S10x48x2048 : Shape := ⟨3, ![10, 48, 2048]⟩
abbrev S1x1280 : Shape := ⟨2, ![1, 1280]⟩

abbrev nBuf : Space → Nat
  | .hbm => 119
  | .vmem => 2
  | .smem => 0
  | _ => 0

abbrev bufTy : (tb : Table) → Fin (tcTables nBuf tb) → BufTy
  | .hbm, ⟨0, _⟩ => ⟨S48x2048x1280, .bf16⟩
  | .hbm, ⟨1, _⟩ => ⟨S48x2048x1280, .bf16⟩
  | .hbm, ⟨2, _⟩ => ⟨S48x2048, .f32⟩
  | .hbm, ⟨3, _⟩ => ⟨S48x2048, .f32⟩
  | .hbm, ⟨4, _⟩ => ⟨S1280, .f32⟩
  | .hbm, ⟨5, _⟩ => ⟨S3, .f32⟩
  | .hbm, ⟨6, _⟩ => ⟨S3x48x2048, .f32⟩
  | .hbm, ⟨7, _⟩ => ⟨S3x48x2048, .f32⟩
  | .hbm, ⟨8, _⟩ => ⟨S48x2048x1280, .f32⟩
  | .hbm, ⟨9, _⟩ => ⟨S48x2048x1280, .f32⟩
  | .hbm, ⟨10, _⟩ => ⟨S48x2048x1, .f32⟩
  | .hbm, ⟨11, _⟩ => ⟨S48x2048x1, .f32⟩
  | .hbm, ⟨12, _⟩ => ⟨S48x2048x1280, .f32⟩
  | .hbm, ⟨13, _⟩ => ⟨S48x2048x1280, .f32⟩
  | .hbm, ⟨14, _⟩ => ⟨S48x2048x1280, .f32⟩
  | .hbm, ⟨15, _⟩ => ⟨S48x2048x1280, .f32⟩
  | .hbm, ⟨16, _⟩ => ⟨S1x1x1280, .f32⟩
  | .hbm, ⟨17, _⟩ => ⟨S48x2048x1280, .f32⟩
  | .hbm, ⟨18, _⟩ => ⟨S48x2048x1280, .f32⟩
  | .hbm, ⟨19, _⟩ => ⟨S_, .f32⟩
  | .hbm, ⟨20, _⟩ => ⟨S48x2048, .f32⟩
  | .hbm, ⟨21, _⟩ => ⟨S48x2048x1280, .f32⟩
  | .hbm, ⟨22, _⟩ => ⟨S_, .f32⟩
  | .hbm, ⟨23, _⟩ => ⟨S48x2048, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x48x2048, .f32⟩
  | .hbm, ⟨35, _⟩ => ⟨S48x2048, .f32⟩
  | .hbm, ⟨36, _⟩ => ⟨S1x48x2048, .f32⟩
  | .hbm, ⟨37, _⟩ => ⟨S48x2048, .f32⟩
  | .hbm, ⟨38, _⟩ => ⟨S48x2048, .f32⟩
  | .hbm, ⟨39, _⟩ => ⟨S1x48x2048, .f32⟩
  | .hbm, ⟨40, _⟩ => ⟨S48x2048, .f32⟩
  | .hbm, ⟨41, _⟩ => ⟨S48x2048, .f32⟩
  | .hbm, ⟨42, _⟩ => ⟨S48x2048, .f32⟩
  | .hbm, ⟨43, _⟩ => ⟨S1x48x2048, .f32⟩
  | .hbm, ⟨44, _⟩ => ⟨S48x2048, .f32⟩
  | .hbm, ⟨45, _⟩ => ⟨S1x48x2048, .f32⟩
  | .hbm, ⟨46, _⟩ => ⟨S48x2048, .f32⟩
  | .hbm, ⟨47, _⟩ => ⟨S48x2048, .f32⟩
  | .hbm, ⟨48, _⟩ => ⟨S1x48x2048, .f32⟩
  | .hbm, ⟨49, _⟩ => ⟨S48x2048, .f32⟩
  | .hbm, ⟨50, _⟩ => ⟨S48x2048, .f32⟩
  | .hbm, ⟨51, _⟩ => ⟨S48x2048, .f32⟩
  | .hbm, ⟨52, _⟩ => ⟨S48x2048, .f32⟩
  | .hbm, ⟨53, _⟩ => ⟨S48x2048, .f32⟩
  | .hbm, ⟨54, _⟩ => ⟨S48x2048x1, .f32⟩
  | .hbm, ⟨55, _⟩ => ⟨S48x2048x1280, .f32⟩
  | .hbm, ⟨56, _⟩ => ⟨S48x2048x1280, .f32⟩
  | .hbm, ⟨57, _⟩ => ⟨S48x2048, .f32⟩
  | .hbm, ⟨58, _⟩ => ⟨S48x2048, .f32⟩
  | .hbm, ⟨59, _⟩ => ⟨S48x2048x1, .f32⟩
  | .hbm, ⟨60, _⟩ => ⟨S48x2048x1280, .f32⟩
  | .hbm, ⟨61, _⟩ => ⟨S48x2048x1280, .f32⟩
  | .hbm, ⟨62, _⟩ => ⟨S48x2048x1280, .f32⟩
  | .hbm, ⟨63, _⟩ => ⟨S48x2048x1280, .f32⟩
  | .hbm, ⟨64, _⟩ => ⟨S48x2048x1280, .f32⟩
  | .hbm, ⟨65, _⟩ => ⟨S48x2048x10x128, .f32⟩
  | .hbm, ⟨66, _⟩ => ⟨S48x2048x10x128, .f32⟩
  | .hbm, ⟨67, _⟩ => ⟨S_, .f32⟩
  | .hbm, ⟨68, _⟩ => ⟨S48x2048x10, .f32⟩
  | .hbm, ⟨69, _⟩ => ⟨S_, .f32⟩
  | .hbm, ⟨70, _⟩ => ⟨S48x2048x10, .f32⟩
  | .hbm, ⟨71, _⟩ => ⟨S48x2048x10, .f32⟩
  | .hbm, ⟨72, _⟩ => ⟨S_, .f32⟩
  | .hbm, ⟨73, _⟩ => ⟨S48x2048x10, .f32⟩
  | .hbm, ⟨74, _⟩ => ⟨S48x2048x10, .f32⟩
  | .hbm, ⟨75, _⟩ => ⟨S_, .f32⟩
  | .hbm, ⟨76, _⟩ => ⟨S48x2048x10, .f32⟩
  | .hbm, ⟨77, _⟩ => ⟨S48x2048x10, .i1⟩
  | .hbm, ⟨78, _⟩ => ⟨S48x2048x10, .f32⟩
  | .hbm, ⟨79, _⟩ => ⟨S_, .f32⟩
  | .hbm, ⟨80, _⟩ => ⟨S_, .f32⟩
  | .hbm, ⟨81, _⟩ => ⟨S48x2048x10, .f32⟩
  | .hbm, ⟨82, _⟩ => ⟨S48x2048x10, .f32⟩
  | .hbm, ⟨83, _⟩ => ⟨S48x2048x10, .f32⟩
  | .hbm, ⟨84, _⟩ => ⟨S_, .f32⟩
  | .hbm, ⟨85, _⟩ => ⟨S48x2048x10, .f32⟩
  | .hbm, ⟨86, _⟩ => ⟨S48x2048x10, .f32⟩
  | .hbm, ⟨87, _⟩ => ⟨S_, .f32⟩
  | .hbm, ⟨88, _⟩ => ⟨S_, .f32⟩
  | .hbm, ⟨89, _⟩ => ⟨S48x2048x10, .f32⟩
  | .hbm, ⟨90, _⟩ => ⟨S48x2048x10, .f32⟩
  | .hbm, ⟨91, _⟩ => ⟨S_, .f32⟩
  | .hbm, ⟨92, _⟩ => ⟨S48x2048x10, .f32⟩
  | .hbm, ⟨93, _⟩ => ⟨S48x2048x10, .f32⟩
  | .hbm, ⟨94, _⟩ => ⟨S48x2048x10, .f32⟩
  | .hbm, ⟨95, _⟩ => ⟨S_, .f32⟩
  | .hbm, ⟨96, _⟩ => ⟨S48x2048x10, .f32⟩
  | .hbm, ⟨97, _⟩ => ⟨S48x2048x10, .f32⟩
  | .hbm, ⟨98, _⟩ => ⟨S48x2048x10x1, .f32⟩
  | .hbm, ⟨99, _⟩ => ⟨S48x2048x10x128, .f32⟩
  | .hbm, ⟨100, _⟩ => ⟨S48x2048x10x128, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S48x2048x10x128, .f32⟩
  | .hbm, ⟨105, _⟩ => ⟨S48x2048x10x128, .f32⟩
  | .hbm, ⟨106, _⟩ => ⟨S_, .f32⟩
  | .hbm, ⟨107, _⟩ => ⟨S48x2048x10x128, .f32⟩
  | .hbm, ⟨108, _⟩ => ⟨S48x2048x10x128, .f32⟩
  | .hbm, ⟨109, _⟩ => ⟨S48x2048x1280, .f32⟩
  | .hbm, ⟨110, _⟩ => ⟨S10x48x2048, .f32⟩
  | .hbm, ⟨111, _⟩ => ⟨S48x2048x1280, .f32⟩
  | .hbm, ⟨112, _⟩ => ⟨S_, .f32⟩
  | .hbm, ⟨113, _⟩ => ⟨S1280, .f32⟩
  | .hbm, ⟨114, _⟩ => ⟨S1x1280, .f32⟩
  | .hbm, ⟨115, _⟩ => ⟨S_, .f32⟩
  | .hbm, ⟨116, _⟩ => ⟨S1280, .f32⟩
  | .hbm, ⟨117, _⟩ => ⟨S1x1280, .f32⟩
  | .hbm, ⟨118, _⟩ => ⟨S48x2048x1280, .fp8e5m2⟩
  | .local _ .vmem, ⟨0, _⟩ => ⟨S48x2048x1280, .f32⟩
  | .local _ .vmem, ⟨1, _⟩ => ⟨S48x2048x1280, .fp8e5m2⟩
  | _, _ => ⟨S48x2048x1280, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_2 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_call0_v0 : Ref sig .tc := ⟨.hbm, 88, rfl⟩
abbrev main_call0_v1 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_cst_12 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S48x2048x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x2048x1280 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.OffsetsK.lean ====
/-
  The rectangles that a trip of the two counted loops reads and stores, in closed form. The printed offsets are a trip number's quotient and
  remainder spelt with 32-bit words; over the trips that the loops run they are the quotient and remainder of natural numbers.
-/
module

public import proofs.«01_k».proof.Proof.Gen.Kernel.Skeleton
public import proofs.«01_k».proof.Proof.Gen.Kernel.Loops
public import Idealize.ShloMosaic.Lib.Exec

@[expose] public section

noncomputable section

namespace Cert.Kernel.Hand

open Cert.Kernel
open Idealize.ShloMosaic

/-! ## First loop: trip `k` works on batch row `k / 2` and on the 64 tokens from `64 * (k % 2)` -/

theorem off1_eq : ∀ k : Fin k0_t1_loop.trips, k0_off1 k = ![k.val / 2, 64 * (k.val % 2), 0] := by decide +kernel
instance (k : Fin k0_t1_loop.trips) : ClosedOff (k0_off1 k) := ⟨_, off1_eq k⟩
theorem off2_eq : ∀ k : Fin k0_t1_loop.trips, k0_off2 k = ![k.val / 2, 64 * (k.val % 2), 0] := by decide +kernel
instance (k : Fin k0_t1_loop.trips) : ClosedOff (k0_off2 k) := ⟨_, off2_eq k⟩
theorem off3_eq : ∀ k : Fin k0_t1_loop.trips, k0_off3 k = ![k.val / 2, 64 * (k.val % 2), 128] := by decide +kernel
instance (k : Fin k0_t1_loop.trips) : ClosedOff (k0_off3 k) := ⟨_, off3_eq k⟩
theorem off4_eq : ∀ k : Fin k0_t1_loop.trips, k0_off4 k = ![k.val / 2, 64 * (k.val % 2), 256] := by decide +kernel
instance (k : Fin k0_t1_loop.trips) : ClosedOff (k0_off4 k) := ⟨_, off4_eq k⟩
theorem off5_eq : ∀ k : Fin k0_t1_loop.trips, k0_off5 k = ![k.val / 2, 64 * (k.val % 2), 384] := by decide +kernel
instance (k : Fin k0_t1_loop.trips) : ClosedOff (k0_off5 k) := ⟨_, off5_eq k⟩
theorem off6_eq : ∀ k : Fin k0_t1_loop.trips, k0_off6 k = ![k.val / 2, 64 * (k.val % 2), 512] := by decide +kernel
instance (k : Fin k0_t1_loop.trips) : ClosedOff (k0_off6 k) := ⟨_, off6_eq k⟩
theorem off7_eq : ∀ k : Fin k0_t1_loop.trips, k0_off7 k = ![k.val / 2, 64 * (k.val % 2), 640] := by decide +kernel
instance (k : Fin k0_t1_loop.trips) : ClosedOff (k0_off7 k) := ⟨_, off7_eq k⟩
theorem off8_eq : ∀ k : Fin k0_t1_loop.trips, k0_off8 k = ![k.val / 2, 64 * (k.val % 2), 768] := by decide +kernel
instance (k : Fin k0_t1_loop.trips) : ClosedOff (k0_off8 k) := ⟨_, off8_eq k⟩
theorem off9_eq : ∀ k : Fin k0_t1_loop.trips, k0_off9 k = ![k.val / 2, 64 * (k.val % 2), 896] := by decide +kernel
instance (k : Fin k0_t1_loop.trips) : ClosedOff (k0_off9 k) := ⟨_, off9_eq k⟩
theorem off10_eq : ∀ k : Fin k0_t1_loop.trips, k0_off10 k = ![k.val / 2, 64 * (k.val % 2), 1024] := by decide +kernel
instance (k : Fin k0_t1_loop.trips) : ClosedOff (k0_off10 k) := ⟨_, off10_eq k⟩
theorem off11_eq : ∀ k : Fin k0_t1_loop.trips, k0_off11 k = ![k.val / 2, 64 * (k.val % 2), 1152] := by decide +kernel
instance (k : Fin k0_t1_loop.trips) : ClosedOff (k0_off11 k) := ⟨_, off11_eq k⟩

/-! ## Second loop: trip `k` works on batch row `k / 4` and on the 32 tokens from `32 * (k % 4)` -/

theorem off12_eq : ∀ k : Fin k0_t2_loop.trips, k0_off12 k = ![k.val / 4, 32 * (k.val % 4), 0] := by decide +kernel
instance (k : Fin k0_t2_loop.trips) : ClosedOff (k0_off12 k) := ⟨_, off12_eq k⟩
theorem off13_eq : ∀ k : Fin k0_t2_loop.trips, k0_off13 k = ![k.val / 4, 32 * (k.val % 4), 0] := by decide +kernel
instance (k : Fin k0_t2_loop.trips) : ClosedOff (k0_off13 k) := ⟨_, off13_eq k⟩
theorem off14_eq : ∀ k : Fin k0_t2_loop.trips, k0_off14 k = ![k.val / 4, 32 * (k.val % 4), 0] := by decide +kernel
instance (k : Fin k0_t2_loop.trips) : ClosedOff (k0_off14 k) := ⟨_, off14_eq k⟩
theorem off15_eq : ∀ k : Fin k0_t2_loop.trips, k0_off15 k = ![k.val / 4, 32 * (k.val % 4), 128] := by decide +kernel
instance (k : Fin k0_t2_loop.trips) : ClosedOff (k0_off15 k) := ⟨_, off15_eq k⟩
theorem off16_eq : ∀ k : Fin k0_t2_loop.trips, k0_off16 k = ![k.val / 4, 32 * (k.val % 4), 1] := by decide +kernel
instance (k : Fin k0_t2_loop.trips) : ClosedOff (k0_off16 k) := ⟨_, off16_eq k⟩
theorem off17_eq : ∀ k : Fin k0_t2_loop.trips, k0_off17 k = ![k.val / 4, 32 * (k.val % 4), 256] := by decide +kernel
instance (k : Fin k0_t2_loop.trips) : ClosedOff (k0_off17 k) := ⟨_, off17_eq k⟩
theorem off18_eq : ∀ k : Fin k0_t2_loop.trips, k0_off18 k = ![k.val / 4, 32 * (k.val % 4), 2] := by decide +kernel
instance (k : Fin k0_t2_loop.trips) : ClosedOff (k0_off18 k) := ⟨_, off18_eq k⟩
theorem off19_eq : ∀ k : Fin k0_t2_loop.trips, k0_off19 k = ![k.val / 4, 32 * (k.val % 4), 384] := by decide +kernel
instance (k : Fin k0_t2_loop.trips) : ClosedOff (k0_off19 k) := ⟨_, off19_eq k⟩
theorem off20_eq : ∀ k : Fin k0_t2_loop.trips, k0_off20 k = ![k.val / 4, 32 * (k.val % 4), 3] := by decide +kernel
instance (k : Fin k0_t2_loop.trips) : ClosedOff (k0_off20 k) := ⟨_, off20_eq k⟩
theorem off21_eq : ∀ k : Fin k0_t2_loop.trips, k0_off21 k = ![k.val / 4, 32 * (k.val % 4), 512] := by decide +kernel
instance (k : Fin k0_t2_loop.trips) : ClosedOff (k0_off21 k) := ⟨_, off21_eq k⟩
theorem off22_eq : ∀ k : Fin k0_t2_loop.trips, k0_off22 k = ![k.val / 4, 32 * (k.val % 4), 4] := by decide +kernel
instance (k : Fin k0_t2_loop.trips) : ClosedOff (k0_off22 k) := ⟨_, off22_eq k⟩
theorem off23_eq : ∀ k : Fin k0_t2_loop.trips, k0_off23 k = ![k.val / 4, 32 * (k.val % 4), 640] := by decide +kernel
instance (k : Fin k0_t2_loop.trips) : ClosedOff (k0_off23 k) := ⟨_, off23_eq k⟩
theorem off24_eq : ∀ k : Fin k0_t2_loop.trips, k0_off24 k = ![k.val / 4, 32 * (k.val % 4), 5] := by decide +kernel
instance (k : Fin k0_t2_loop.trips) : ClosedOff (k0_off24 k) := ⟨_, off24_eq k⟩
theorem off25_eq : ∀ k : Fin k0_t2_loop.trips, k0_off25 k = ![k.val / 4, 32 * (k.val % 4), 768] := by decide +kernel
instance (k : Fin k0_t2_loop.trips) : ClosedOff (k0_off25 k) := ⟨_, off25_eq k⟩
theorem off26_eq : ∀ k : Fin k0_t2_loop.trips, k0_off26 k = ![k.val / 4, 32 * (k.val % 4), 6] := by decide +kernel
instance (k : Fin k0_t2_loop.trips) : ClosedOff (k0_off26 k) := ⟨_, off26_eq k⟩
theorem off27_eq : ∀ k : Fin k0_t2_loop.trips, k0_off27 k = ![k.val / 4, 32 * (k.val % 4), 896] := by decide +kernel
instance (k : Fin k0_t2_loop.trips) : ClosedOff (k0_off27 k) := ⟨_, off27_eq k⟩
theorem off28_eq : ∀ k : Fin k0_t2_loop.trips, k0_off28 k = ![k.val / 4, 32 * (k.val % 4), 7] := by decide +kernel
instance (k : Fin k0_t2_loop.trips) : ClosedOff (k0_off28 k) := ⟨_, off28_eq k⟩
theorem off29_eq : ∀ k : Fin k0_t2_loop.trips, k0_off29 k = ![k.val / 4, 32 * (k.val % 4), 1024] := by decide +kernel
instance (k : Fin k0_t2_loop.trips) : ClosedOff (k0_off29 k) := ⟨_, off29_eq k⟩
theorem off30_eq : ∀ k : Fin k0_t2_loop.trips, k0_off30 k = ![k.val / 4, 32 * (k.val % 4), 8] := by decide +kernel
instance (k : Fin k0_t2_loop.trips) : ClosedOff (k0_off30 k) := ⟨_, off30_eq k⟩
theorem off31_eq : ∀ k : Fin k0_t2_loop.trips, k0_off31 k = ![k.val / 4, 32 * (k.val % 4), 1152] := by decide +kernel
instance (k : Fin k0_t2_loop.trips) : ClosedOff (k0_off31 k) := ⟨_, off31_eq k⟩
theorem off32_eq : ∀ k : Fin k0_t2_loop.trips, k0_off32 k = ![k.val / 4, 32 * (k.val % 4), 9] := by decide +kernel
instance (k : Fin k0_t2_loop.trips) : ClosedOff (k0_off32 k) := ⟨_, off32_eq k⟩

end Cert.Kernel.Hand

end
-- ==== Proof.LoopsK.lean ====
/-
  The two counted loops of the kernel, for its frame: a trip of either reads and stores the buffers named here, all of them owned, and hands
  each back, those it only reads as they were.
-/
module

public import proofs.«01_k».proof.Proof.OffsetsK
public import Idealize.ShloMosaic.Lib.Tactic

@[expose] public section

set_option maxRecDepth 16384

noncomputable section

namespace Cert.Kernel.Hand

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords)
  (arg1 : Memref sig .tc .smem S3 .f32) (harg1 : arg1.IsWhole)
  (arg2 : Memref sig .tc .vmem S8x128x1280 .bf16) (harg2 : arg2.IsWhole)
  (arg3 : Memref sig .tc .vmem S8x128x1280 .bf16) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1x1280 .f32) (harg6 : arg6.IsWhole)
  (arg7 : Memref sig .tc .vmem S3x8x128 .f32) (harg7 : arg7.IsWhole)
  (arg8 : Memref sig .tc .vmem S3x8x128 .f32) (harg8 : arg8.IsWhole)
  (arg9 : Memref sig .tc .vmem S8x128x1280 .fp8e5m2) (harg9 : arg9.IsWhole)
  (arg10 : Memref sig .tc .vmem S10x8x128 .f32) (harg10 : arg10.IsWhole)
  (arg11 : Memref sig .tc .vmem S1x1280 .f32) (harg11 : arg11.IsWhole)
  (arg12 : Memref sig .tc .vmem S1x1280 .f32) (harg12 : arg12.IsWhole)
  (arg13 : Memref sig .tc .vmem S8x128x1280 .f32) (harg13 : arg13.IsWhole)
  (arg14 : Memref sig .tc .vmem S8x128x1280 .f32) (harg14 : arg14.IsWhole)
  (arg15 : Memref sig .tc .vmem S8x128x128 .f32) (harg15 : arg15.IsWhole)
  (arg16 : Memref sig .tc .vmem S8x128x128 .f32) (harg16 : arg16.IsWhole)
  (arg17 : Memref sig .tc .vmem S8x128x128 .f32) (harg17 : arg17.IsWhole)
  (arg18 : Memref sig .tc .vmem S8x128x128 .f32) (harg18 : arg18.IsWhole)
  (arg19 : Memref sig .tc .vmem S8x128x128 .f32) (harg19 : arg19.IsWhole)
  (arg20 : Memref sig .tc .vmem S8x128x128 .f32) (harg20 : arg20.IsWhole)
  (arg21 : Memref sig .tc .vmem S8x1280 .f32) (harg21 : arg21.IsWhole)
  (arg22 : Memref sig .tc .vmem S8x1280 .f32) (harg22 : arg22.IsWhole)

/-- The first loop: `arg2`, `arg3`, `arg6` and `arg15` are read; `arg13`, `arg14`, `arg16`, `arg17` and `arg21` are stored. -/
@[sl_loop] def loopFrame1 (f2 : Buf (Elt F) (arg2.view.loc (c : Thread nD τ))) (f3 : Buf (Elt F) (arg3.view.loc (c : Thread nD τ))) (f6 : Buf (Elt F) (arg6.view.loc (c : Thread nD τ))) (f15 : Buf (Elt F) (arg15.view.loc (c : Thread nD τ))) (v9 : Vec F S8x128 .f32) (v10 : Vec F S8x128 .f32) (v35 : FVec F S128x128 .f32) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 v35 where
  inv _ _ := iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg15.view.loc (c : Thread nD τ) ↦[arg15.view.set]{fullShare} f15) ∗ (∃ f, (arg13.view.loc (c : Thread nD τ) ↦[arg13.view.set]{fullShare} f)) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg21.view.loc (c : Thread nD τ) ↦[arg21.view.set]{fullShare} f)))
  step k _ := by
    iintro ⟨H2, H3, H6, H15, ⟨%g13, H13⟩, ⟨%g14, H14⟩, ⟨%g16, H16⟩, ⟨%g17, H17⟩, ⟨%g21, H21⟩⟩
    sl_unfold [Gen.k0_t1_body]
    sl_exec
    sl_step
    isplitl [H2]; · iexact H2
    isplitl [H3]; · iexact H3
    isplitl [H6]; · iexact H6
    isplitl [H15]; · iexact H15
    isplitl [H13]; · iexists _; iexact H13
    isplitl [H14]; · iexists _; iexact H14
    isplitl [H16]; · iexists _; iexact H16
    isplitl [H17]; · iexists _; iexact H17
    iexists _; iexact H21

/-- The second loop: `arg13`, `arg14`, `arg18` and `arg19` are read; `arg9` and `arg20` are stored. -/
@[sl_loop] def loopFrame2 (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) (v393 : FVec F S128x128 .f32) :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 where
  inv _ _ := iprop((arg13.view.loc (c : Thread nD τ) ↦[arg13.view.set]{fullShare} f13) ∗ (arg14.view.loc (c : Thread nD τ) ↦[arg14.view.set]{fullShare} f14) ∗ (arg18.view.loc (c : Thread nD τ) ↦[arg18.view.set]{fullShare} f18) ∗ (arg19.view.loc (c : Thread nD τ) ↦[arg19.view.set]{fullShare} f19) ∗ (∃ f, (arg9.view.loc (c : Thread nD τ) ↦[arg9.view.set]{fullShare} f)) ∗ (∃ f, (arg20.view.loc (c : Thread nD τ) ↦[arg20.view.set]{fullShare} f)))
  step k _ := by
    iintro ⟨H13, H14, H18, H19, ⟨%g9, H9⟩, ⟨%g20, H20⟩⟩
    sl_unfold [Gen.k0_t2_body]
    sl_exec
    sl_step
    isplitl [H13]; · iexact H13
    isplitl [H14]; · iexact H14
    isplitl [H18]; · iexact H18
    isplitl [H19]; · iexact H19
    isplitl [H9]; · iexists _; iexact H9
    iexists _; iexact H20

end Cert.Kernel.Hand

end
-- ==== Proof.KitK.lean ====
/-
  What the hand proofs of this program use of its grid: the two conditions of the body as points of the grid, the windows' staging memrefs and the
  scratch memrefs by name, and the argument arrays at the end of a run.
-/
module

public import proofs.«01_k».proof.Proof.Gen.Kernel.Frame
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays at the end of a run, from what the run says of the pipeline's arrays. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      (Pipeline.RDat.FramePost.arr_in h c 0 rfl).trans ((hA c 0).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_1, k0_cond2, e0]
    word_cmp
   : ∀ t : Fin grid0.N, cond0_1 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x1280 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x1280 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S10x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S8x128x1280 .f32 := Memref.whole cc0_scratch0
abbrev scM0_1 : Memref sig .tc .vmem S8x128x1280 .f32 := Memref.whole cc0_scratch1
abbrev scM0_2 : Memref sig .tc .vmem S8x128x128 .f32 := Memref.whole cc0_scratch2
abbrev scM0_3 : Memref sig .tc .vmem S8x128x128 .f32 := Memref.whole cc0_scratch3
abbrev scM0_4 : Memref sig .tc .vmem S8x128x128 .f32 := Memref.whole cc0_scratch4
abbrev scM0_5 : Memref sig .tc .vmem S8x128x128 .f32 := Memref.whole cc0_scratch5
abbrev scM0_6 : Memref sig .tc .vmem S8x128x128 .f32 := Memref.whole cc0_scratch6
abbrev scM0_7 : Memref sig .tc .vmem S8x128x128 .f32 := Memref.whole cc0_scratch7
abbrev scM0_8 : Memref sig .tc .vmem S8x1280 .f32 := Memref.whole cc0_scratch8
abbrev scM0_9 : Memref sig .tc .vmem S8x1280 .f32 := Memref.whole cc0_scratch9

/-- The invariant of the frame, with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.Hand

end
-- ==== Proof.BodyK.lean ====
/-
  One run of the kernel body as it is printed, for its frame: whatever the scratch and the result blocks hold, the body runs to its end and
  hands its input blocks back as they were.
-/
module

public import proofs.«01_k».proof.Proof.LoopsK
public import proofs.«01_k».proof.Proof.KitK
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .smem S3 .f32) (harg1 : arg1.IsWhole)
  (arg2 : Memref sig .tc .vmem S8x128x1280 .bf16) (harg2 : arg2.IsWhole)
  (arg3 : Memref sig .tc .vmem S8x128x1280 .bf16) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1x1280 .f32) (harg6 : arg6.IsWhole)
  (arg7 : Memref sig .tc .vmem S3x8x128 .f32) (harg7 : arg7.IsWhole)
  (arg8 : Memref sig .tc .vmem S3x8x128 .f32) (harg8 : arg8.IsWhole)
  (arg9 : Memref sig .tc .vmem S8x128x1280 .fp8e5m2) (harg9 : arg9.IsWhole)
  (arg10 : Memref sig .tc .vmem S10x8x128 .f32) (harg10 : arg10.IsWhole)
  (arg11 : Memref sig .tc .vmem S1x1280 .f32) (harg11 : arg11.IsWhole)
  (arg12 : Memref sig .tc .vmem S1x1280 .f32) (harg12 : arg12.IsWhole)
  (arg13 : Memref sig .tc .vmem S8x128x1280 .f32) (harg13 : arg13.IsWhole)
  (arg14 : Memref sig .tc .vmem S8x128x1280 .f32) (harg14 : arg14.IsWhole)
  (arg15 : Memref sig .tc .vmem S8x128x128 .f32) (harg15 : arg15.IsWhole)
  (arg16 : Memref sig .tc .vmem S8x128x128 .f32) (harg16 : arg16.IsWhole)
  (arg17 : Memref sig .tc .vmem S8x128x128 .f32) (harg17 : arg17.IsWhole)
  (arg18 : Memref sig .tc .vmem S8x128x128 .f32) (harg18 : arg18.IsWhole)
  (arg19 : Memref sig .tc .vmem S8x128x128 .f32) (harg19 : arg19.IsWhole)
  (arg20 : Memref sig .tc .vmem S8x128x128 .f32) (harg20 : arg20.IsWhole)
  (arg21 : Memref sig .tc .vmem S8x1280 .f32) (harg21 : arg21.IsWhole)
  (arg22 : Memref sig .tc .vmem S8x1280 .f32) (harg22 : arg22.IsWhole)

set_option maxHeartbeats 8000000 in
/-- The body on whole memrefs, the eight inputs' at contents `x1` … `x8` and every other at anything: it runs to the continuation, which gets the
    inputs' as they were and every other at something. The two conditionals (first point, last point) go either way. -/
theorem body_frame (x1 : Vec F S3 .f32) (x2 : Vec F S8x128x1280 .bf16) (x3 : Vec F S8x128x1280 .bf16) (x4 : Vec F S8x128 .f32) (x5 : Vec F S8x128 .f32) (x6 : Vec F S1x1280 .f32) (x7 : Vec F S3x8x128 .f32) (x8 : Vec F S3x8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) Set.univ (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases hc0 : cond0_0 i <;> by_cases hc1 : cond0_1 i
  all_goals
    simp only [cc0_ln_bwd_e5m2_eq_skeleton]; unfold cc0_ln_bwd_e5m2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

end Body

end Cert.Kernel.Hand

end
-- ==== Proof.FrameK.lean ====
/-
  The frame of the kernel as it is printed: every run of the program ends, with the argument arrays unchanged and every
  semaphore counter at zero.
-/
module

public import proofs.«01_k».proof.Proof.BodyK
public import proofs.«01_k».proof.Proof.KitK
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four results are the windows of which the frame says nothing. -/
def isResult : Fin 12 → Bool := fun w => w.val == 8 || w.val == 9 || w.val == 10 || w.val == 11

/-- The proof data of the pipeline on core `c`: the arrays as the region finds them, each input's buffer at its block after every point, nothing
    said of the results, the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
  iapply (body_frame c (grid0.coords t)  _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ isResult := fun t => by
  rw [bigSep_W0, bigSep_W0, defs₀_row]
  exact triple_restated (sound_body m c t) rfl .rfl fun _ => .rfl

set_option backward.isDefEq.respectTransparency.types false in
/-- Every run of the program ends, with its arrays as the proof data say and every semaphore counter at zero. -/
theorem run_frame : θ_run defs (onTc (τ := τ) (main (F := F))) (s₀ m ρ) (fun r => (Pipeline.RDat.FramePost (cfgs 0) (fun c => (dats m 0 c).toRForget isResult) (V m)) r ∧ r.2.sem = fun _ => 0) :=
  Pipeline.θ_run_frame_track_forget (Q' := _) cfgs (dats m) (0 : Fin 1) launch0 defs₀ Variants.none isResult m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: every run ends with the argument arrays unchanged and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (frame_of_rel m ρ (fun c => (dats m 0 c).toRForget isResult) (A_eq m) ((θ_run defs _ _).mono (fun _ h => h.1) (run_frame m ρ)))
    ((θ_run defs _ _).mono (fun _ h => h.2) (run_frame m ρ))

end Cert.Kernel.Hand

end
-- ==== Proof.OffsetsI.lean ====
/-
  The rectangles that a trip of the two counted loops reads and stores, in closed form. The printed offsets are a trip number's quotient and
  remainder spelt with 32-bit words; over the trips that the loops run they are the quotient and remainder of natural numbers.
-/
module

public import proofs.«01_k».proof.Proof.Gen.KernelIdeal.Skeleton
public import proofs.«01_k».proof.Proof.Gen.KernelIdeal.Loops
public import Idealize.ShloMosaic.Lib.Exec

@[expose] public section

noncomputable section

namespace Cert.KernelIdeal.Hand

open Cert.KernelIdeal
open Idealize.ShloMosaic

/-! ## First loop: trip `k` works on batch row `k / 2` and on the 64 tokens from `64 * (k % 2)` -/

theorem off1_eq : ∀ k : Fin k0_t1_loop.trips, k0_off1 k = ![k.val / 2, 64 * (k.val % 2), 0] := by decide +kernel
instance (k : Fin k0_t1_loop.trips) : ClosedOff (k0_off1 k) := ⟨_, off1_eq k⟩
theorem off2_eq : ∀ k : Fin k0_t1_loop.trips, k0_off2 k = ![k.val / 2, 64 * (k.val % 2), 0] := by decide +kernel
instance (k : Fin k0_t1_loop.trips) : ClosedOff (k0_off2 k) := ⟨_, off2_eq k⟩
theorem off3_eq : ∀ k : Fin k0_t1_loop.trips, k0_off3 k = ![k.val / 2, 64 * (k.val % 2), 128] := by decide +kernel
instance (k : Fin k0_t1_loop.trips) : ClosedOff (k0_off3 k) := ⟨_, off3_eq k⟩
theorem off4_eq : ∀ k : Fin k0_t1_loop.trips, k0_off4 k = ![k.val / 2, 64 * (k.val % 2), 256] := by decide +kernel
instance (k : Fin k0_t1_loop.trips) : ClosedOff (k0_off4 k) := ⟨_, off4_eq k⟩
theorem off5_eq : ∀ k : Fin k0_t1_loop.trips, k0_off5 k = ![k.val / 2, 64 * (k.val % 2), 384] := by decide +kernel
instance (k : Fin k0_t1_loop.trips) : ClosedOff (k0_off5 k) := ⟨_, off5_eq k⟩
theorem off6_eq : ∀ k : Fin k0_t1_loop.trips, k0_off6 k = ![k.val / 2, 64 * (k.val % 2), 512] := by decide +kernel
instance (k : Fin k0_t1_loop.trips) : ClosedOff (k0_off6 k) := ⟨_, off6_eq k⟩
theorem off7_eq : ∀ k : Fin k0_t1_loop.trips, k0_off7 k = ![k.val / 2, 64 * (k.val % 2), 640] := by decide +kernel
instance (k : Fin k0_t1_loop.trips) : ClosedOff (k0_off7 k) := ⟨_, off7_eq k⟩
theorem off8_eq : ∀ k : Fin k0_t1_loop.trips, k0_off8 k = ![k.val / 2, 64 * (k.val % 2), 768] := by decide +kernel
instance (k : Fin k0_t1_loop.trips) : ClosedOff (k0_off8 k) := ⟨_, off8_eq k⟩
theorem off9_eq : ∀ k : Fin k0_t1_loop.trips, k0_off9 k = ![k.val / 2, 64 * (k.val % 2), 896] := by decide +kernel
instance (k : Fin k0_t1_loop.trips) : ClosedOff (k0_off9 k) := ⟨_, off9_eq k⟩
theorem off10_eq : ∀ k : Fin k0_t1_loop.trips, k0_off10 k = ![k.val / 2, 64 * (k.val % 2), 1024] := by decide +kernel
instance (k : Fin k0_t1_loop.trips) : ClosedOff (k0_off10 k) := ⟨_, off10_eq k⟩
theorem off11_eq : ∀ k : Fin k0_t1_loop.trips, k0_off11 k = ![k.val / 2, 64 * (k.val % 2), 1152] := by decide +kernel
instance (k : Fin k0_t1_loop.trips) : ClosedOff (k0_off11 k) := ⟨_, off11_eq k⟩

/-! ## Second loop: trip `k` works on batch row `k / 4` and on the 32 tokens from `32 * (k % 4)` -/

theorem off12_eq : ∀ k : Fin k0_t2_loop.trips, k0_off12 k = ![k.val / 4, 32 * (k.val % 4), 0] := by decide +kernel
instance (k : Fin k0_t2_loop.trips) : ClosedOff (k0_off12 k) := ⟨_, off12_eq k⟩
theorem off13_eq : ∀ k : Fin k0_t2_loop.trips, k0_off13 k = ![k.val / 4, 32 * (k.val % 4), 0] := by decide +kernel
instance (k : Fin k0_t2_loop.trips) : ClosedOff (k0_off13 k) := ⟨_, off13_eq k⟩
theorem off14_eq : ∀ k : Fin k0_t2_loop.trips, k0_off14 k = ![k.val / 4, 32 * (k.val % 4), 0] := by decide +kernel
instance (k : Fin k0_t2_loop.trips) : ClosedOff (k0_off14 k) := ⟨_, off14_eq k⟩
theorem off15_eq : ∀ k : Fin k0_t2_loop.trips, k0_off15 k = ![k.val / 4, 32 * (k.val % 4), 128] := by decide +kernel
instance (k : Fin k0_t2_loop.trips) : ClosedOff (k0_off15 k) := ⟨_, off15_eq k⟩
theorem off16_eq : ∀ k : Fin k0_t2_loop.trips, k0_off16 k = ![k.val / 4, 32 * (k.val % 4), 1] := by decide +kernel
instance (k : Fin k0_t2_loop.trips) : ClosedOff (k0_off16 k) := ⟨_, off16_eq k⟩
theorem off17_eq : ∀ k : Fin k0_t2_loop.trips, k0_off17 k = ![k.val / 4, 32 * (k.val % 4), 256] := by decide +kernel
instance (k : Fin k0_t2_loop.trips) : ClosedOff (k0_off17 k) := ⟨_, off17_eq k⟩
theorem off18_eq : ∀ k : Fin k0_t2_loop.trips, k0_off18 k = ![k.val / 4, 32 * (k.val % 4), 2] := by decide +kernel
instance (k : Fin k0_t2_loop.trips) : ClosedOff (k0_off18 k) := ⟨_, off18_eq k⟩
theorem off19_eq : ∀ k : Fin k0_t2_loop.trips, k0_off19 k = ![k.val / 4, 32 * (k.val % 4), 384] := by decide +kernel
instance (k : Fin k0_t2_loop.trips) : ClosedOff (k0_off19 k) := ⟨_, off19_eq k⟩
theorem off20_eq : ∀ k : Fin k0_t2_loop.trips, k0_off20 k = ![k.val / 4, 32 * (k.val % 4), 3] := by decide +kernel
instance (k : Fin k0_t2_loop.trips) : ClosedOff (k0_off20 k) := ⟨_, off20_eq k⟩
theorem off21_eq : ∀ k : Fin k0_t2_loop.trips, k0_off21 k = ![k.val / 4, 32 * (k.val % 4), 512] := by decide +kernel
instance (k : Fin k0_t2_loop.trips) : ClosedOff (k0_off21 k) := ⟨_, off21_eq k⟩
theorem off22_eq : ∀ k : Fin k0_t2_loop.trips, k0_off22 k = ![k.val / 4, 32 * (k.val % 4), 4] := by decide +kernel
instance (k : Fin k0_t2_loop.trips) : ClosedOff (k0_off22 k) := ⟨_, off22_eq k⟩
theorem off23_eq : ∀ k : Fin k0_t2_loop.trips, k0_off23 k = ![k.val / 4, 32 * (k.val % 4), 640] := by decide +kernel
instance (k : Fin k0_t2_loop.trips) : ClosedOff (k0_off23 k) := ⟨_, off23_eq k⟩
theorem off24_eq : ∀ k : Fin k0_t2_loop.trips, k0_off24 k = ![k.val / 4, 32 * (k.val % 4), 5] := by decide +kernel
instance (k : Fin k0_t2_loop.trips) : ClosedOff (k0_off24 k) := ⟨_, off24_eq k⟩
theorem off25_eq : ∀ k : Fin k0_t2_loop.trips, k0_off25 k = ![k.val / 4, 32 * (k.val % 4), 768] := by decide +kernel
instance (k : Fin k0_t2_loop.trips) : ClosedOff (k0_off25 k) := ⟨_, off25_eq k⟩
theorem off26_eq : ∀ k : Fin k0_t2_loop.trips, k0_off26 k = ![k.val / 4, 32 * (k.val % 4), 6] := by decide +kernel
instance (k : Fin k0_t2_loop.trips) : ClosedOff (k0_off26 k) := ⟨_, off26_eq k⟩
theorem off27_eq : ∀ k : Fin k0_t2_loop.trips, k0_off27 k = ![k.val / 4, 32 * (k.val % 4), 896] := by decide +kernel
instance (k : Fin k0_t2_loop.trips) : ClosedOff (k0_off27 k) := ⟨_, off27_eq k⟩
theorem off28_eq : ∀ k : Fin k0_t2_loop.trips, k0_off28 k = ![k.val / 4, 32 * (k.val % 4), 7] := by decide +kernel
instance (k : Fin k0_t2_loop.trips) : ClosedOff (k0_off28 k) := ⟨_, off28_eq k⟩
theorem off29_eq : ∀ k : Fin k0_t2_loop.trips, k0_off29 k = ![k.val / 4, 32 * (k.val % 4), 1024] := by decide +kernel
instance (k : Fin k0_t2_loop.trips) : ClosedOff (k0_off29 k) := ⟨_, off29_eq k⟩
theorem off30_eq : ∀ k : Fin k0_t2_loop.trips, k0_off30 k = ![k.val / 4, 32 * (k.val % 4), 8] := by decide +kernel
instance (k : Fin k0_t2_loop.trips) : ClosedOff (k0_off30 k) := ⟨_, off30_eq k⟩
theorem off31_eq : ∀ k : Fin k0_t2_loop.trips, k0_off31 k = ![k.val / 4, 32 * (k.val % 4), 1152] := by decide +kernel
instance (k : Fin k0_t2_loop.trips) : ClosedOff (k0_off31 k) := ⟨_, off31_eq k⟩
theorem off32_eq : ∀ k : Fin k0_t2_loop.trips, k0_off32 k = ![k.val / 4, 32 * (k.val % 4), 9] := by decide +kernel
instance (k : Fin k0_t2_loop.trips) : ClosedOff (k0_off32 k) := ⟨_, off32_eq k⟩

end Cert.KernelIdeal.Hand

end
-- ==== Proof.LoopsIF.lean ====
/-
  The two counted loops of the kernel, for its frame: a trip of either reads and stores the buffers named here, all of them owned, and hands
  each back, those it only reads as they were.
-/
module

public import proofs.«01_k».proof.Proof.OffsetsI
public import Idealize.ShloMosaic.Lib.Tactic

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords)
  (arg1 : Memref sig .tc .smem S3 .f32) (harg1 : arg1.IsWhole)
  (arg2 : Memref sig .tc .vmem S8x128x1280 .bf16) (harg2 : arg2.IsWhole)
  (arg3 : Memref sig .tc .vmem S8x128x1280 .bf16) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1x1280 .f32) (harg6 : arg6.IsWhole)
  (arg7 : Memref sig .tc .vmem S3x8x128 .f32) (harg7 : arg7.IsWhole)
  (arg8 : Memref sig .tc .vmem S3x8x128 .f32) (harg8 : arg8.IsWhole)
  (arg9 : Memref sig .tc .vmem S8x128x1280 .fp8e5m2) (harg9 : arg9.IsWhole)
  (arg10 : Memref sig .tc .vmem S10x8x128 .f32) (harg10 : arg10.IsWhole)
  (arg11 : Memref sig .tc .vmem S1x1280 .f32) (harg11 : arg11.IsWhole)
  (arg12 : Memref sig .tc .vmem S1x1280 .f32) (harg12 : arg12.IsWhole)
  (arg13 : Memref sig .tc .vmem S8x128x1280 .f32) (harg13 : arg13.IsWhole)
  (arg14 : Memref sig .tc .vmem S8x128x1280 .f32) (harg14 : arg14.IsWhole)
  (arg15 : Memref sig .tc .vmem S8x128x128 .f32) (harg15 : arg15.IsWhole)
  (arg16 : Memref sig .tc .vmem S8x128x128 .f32) (harg16 : arg16.IsWhole)
  (arg17 : Memref sig .tc .vmem S8x128x128 .f32) (harg17 : arg17.IsWhole)
  (arg18 : Memref sig .tc .vmem S8x128x128 .f32) (harg18 : arg18.IsWhole)
  (arg19 : Memref sig .tc .vmem S8x128x128 .f32) (harg19 : arg19.IsWhole)
  (arg20 : Memref sig .tc .vmem S8x128x128 .f32) (harg20 : arg20.IsWhole)
  (arg21 : Memref sig .tc .vmem S8x1280 .f32) (harg21 : arg21.IsWhole)
  (arg22 : Memref sig .tc .vmem S8x1280 .f32) (harg22 : arg22.IsWhole)

/-- The first loop: `arg2`, `arg3`, `arg6` and `arg15` are read; `arg13`, `arg14`, `arg16`, `arg17` and `arg21` are stored. -/
@[sl_loop] def loopFrame1 (f2 : Buf (Elt F) (arg2.view.loc (c : Thread nD τ))) (f3 : Buf (Elt F) (arg3.view.loc (c : Thread nD τ))) (f6 : Buf (Elt F) (arg6.view.loc (c : Thread nD τ))) (f15 : Buf (Elt F) (arg15.view.loc (c : Thread nD τ))) (v9 : Vec F S8x128 .f32) (v10 : Vec F S8x128 .f32) (v35 : FVec F S128x128 .f32) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 v35 where
  inv _ _ := iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg15.view.loc (c : Thread nD τ) ↦[arg15.view.set]{fullShare} f15) ∗ (∃ f, (arg13.view.loc (c : Thread nD τ) ↦[arg13.view.set]{fullShare} f)) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg21.view.loc (c : Thread nD τ) ↦[arg21.view.set]{fullShare} f)))
  step k _ := by
    iintro ⟨H2, H3, H6, H15, ⟨%g13, H13⟩, ⟨%g14, H14⟩, ⟨%g16, H16⟩, ⟨%g17, H17⟩, ⟨%g21, H21⟩⟩
    sl_unfold [Gen.k0_t1_body]
    sl_exec
    sl_step
    isplitl [H2]; · iexact H2
    isplitl [H3]; · iexact H3
    isplitl [H6]; · iexact H6
    isplitl [H15]; · iexact H15
    isplitl [H13]; · iexists _; iexact H13
    isplitl [H14]; · iexists _; iexact H14
    isplitl [H16]; · iexists _; iexact H16
    isplitl [H17]; · iexists _; iexact H17
    iexists _; iexact H21

/-- The second loop: `arg13`, `arg14`, `arg18` and `arg19` are read; `arg9` and `arg20` are stored. -/
@[sl_loop] def loopFrame2 (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) (v393 : FVec F S128x128 .f32) :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 where
  inv _ _ := iprop((arg13.view.loc (c : Thread nD τ) ↦[arg13.view.set]{fullShare} f13) ∗ (arg14.view.loc (c : Thread nD τ) ↦[arg14.view.set]{fullShare} f14) ∗ (arg18.view.loc (c : Thread nD τ) ↦[arg18.view.set]{fullShare} f18) ∗ (arg19.view.loc (c : Thread nD τ) ↦[arg19.view.set]{fullShare} f19) ∗ (∃ f, (arg9.view.loc (c : Thread nD τ) ↦[arg9.view.set]{fullShare} f)) ∗ (∃ f, (arg20.view.loc (c : Thread nD τ) ↦[arg20.view.set]{fullShare} f)))
  step k _ := by
    iintro ⟨H13, H14, H18, H19, ⟨%g9, H9⟩, ⟨%g20, H20⟩⟩
    sl_unfold [Gen.k0_t2_body]
    sl_exec
    sl_step
    isplitl [H13]; · iexact H13
    isplitl [H14]; · iexact H14
    isplitl [H18]; · iexact H18
    isplitl [H19]; · iexact H19
    isplitl [H9]; · iexists _; iexact H9
    iexists _; iexact H20

end Cert.KernelIdeal.Hand

end
-- ==== Proof.KitI.lean ====
/-
  What the hand proofs of this program use of its grid: the two conditions of the body as points of the grid, the windows' staging memrefs and the
  scratch memrefs by name, and the argument arrays at the end of a run.
-/
module

public import proofs.«01_k».proof.Proof.Gen.KernelIdeal.Frame
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays at the end of a run, from what the run says of the pipeline's arrays. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      (Pipeline.RDat.FramePost.arr_in h c 0 rfl).trans ((hA c 0).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_1, k0_cond2, e0]
    word_cmp
   : ∀ t : Fin grid0.N, cond0_1 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x1280 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x1280 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S10x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S8x128x1280 .f32 := Memref.whole cc0_scratch0
abbrev scM0_1 : Memref sig .tc .vmem S8x128x1280 .f32 := Memref.whole cc0_scratch1
abbrev scM0_2 : Memref sig .tc .vmem S8x128x128 .f32 := Memref.whole cc0_scratch2
abbrev scM0_3 : Memref sig .tc .vmem S8x128x128 .f32 := Memref.whole cc0_scratch3
abbrev scM0_4 : Memref sig .tc .vmem S8x128x128 .f32 := Memref.whole cc0_scratch4
abbrev scM0_5 : Memref sig .tc .vmem S8x128x128 .f32 := Memref.whole cc0_scratch5
abbrev scM0_6 : Memref sig .tc .vmem S8x128x128 .f32 := Memref.whole cc0_scratch6
abbrev scM0_7 : Memref sig .tc .vmem S8x128x128 .f32 := Memref.whole cc0_scratch7
abbrev scM0_8 : Memref sig .tc .vmem S8x1280 .f32 := Memref.whole cc0_scratch8
abbrev scM0_9 : Memref sig .tc .vmem S8x1280 .f32 := Memref.whole cc0_scratch9

/-- The invariant of the frame, with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Hand

end
-- ==== Proof.BodyI.lean ====
/-
  One run of the idealized kernel body, for its frame: whatever the scratch and the result blocks hold, the body runs to its end and
  hands its input blocks back as they were.
-/
module

public import proofs.«01_k».proof.Proof.LoopsIF
public import proofs.«01_k».proof.Proof.KitI
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .smem S3 .f32) (harg1 : arg1.IsWhole)
  (arg2 : Memref sig .tc .vmem S8x128x1280 .bf16) (harg2 : arg2.IsWhole)
  (arg3 : Memref sig .tc .vmem S8x128x1280 .bf16) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1x1280 .f32) (harg6 : arg6.IsWhole)
  (arg7 : Memref sig .tc .vmem S3x8x128 .f32) (harg7 : arg7.IsWhole)
  (arg8 : Memref sig .tc .vmem S3x8x128 .f32) (harg8 : arg8.IsWhole)
  (arg9 : Memref sig .tc .vmem S8x128x1280 .fp8e5m2) (harg9 : arg9.IsWhole)
  (arg10 : Memref sig .tc .vmem S10x8x128 .f32) (harg10 : arg10.IsWhole)
  (arg11 : Memref sig .tc .vmem S1x1280 .f32) (harg11 : arg11.IsWhole)
  (arg12 : Memref sig .tc .vmem S1x1280 .f32) (harg12 : arg12.IsWhole)
  (arg13 : Memref sig .tc .vmem S8x128x1280 .f32) (harg13 : arg13.IsWhole)
  (arg14 : Memref sig .tc .vmem S8x128x1280 .f32) (harg14 : arg14.IsWhole)
  (arg15 : Memref sig .tc .vmem S8x128x128 .f32) (harg15 : arg15.IsWhole)
  (arg16 : Memref sig .tc .vmem S8x128x128 .f32) (harg16 : arg16.IsWhole)
  (arg17 : Memref sig .tc .vmem S8x128x128 .f32) (harg17 : arg17.IsWhole)
  (arg18 : Memref sig .tc .vmem S8x128x128 .f32) (harg18 : arg18.IsWhole)
  (arg19 : Memref sig .tc .vmem S8x128x128 .f32) (harg19 : arg19.IsWhole)
  (arg20 : Memref sig .tc .vmem S8x128x128 .f32) (harg20 : arg20.IsWhole)
  (arg21 : Memref sig .tc .vmem S8x1280 .f32) (harg21 : arg21.IsWhole)
  (arg22 : Memref sig .tc .vmem S8x1280 .f32) (harg22 : arg22.IsWhole)

set_option maxHeartbeats 8000000 in
/-- The body on whole memrefs, the eight inputs' at contents `x1` … `x8` and every other at anything: it runs to the continuation, which gets the
    inputs' as they were and every other at something. The two conditionals (first point, last point) go either way. -/
theorem body_frame (x1 : Vec F S3 .f32) (x2 : Vec F S8x128x1280 .bf16) (x3 : Vec F S8x128x1280 .bf16) (x4 : Vec F S8x128 .f32) (x5 : Vec F S8x128 .f32) (x6 : Vec F S1x1280 .f32) (x7 : Vec F S3x8x128 .f32) (x8 : Vec F S3x8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) Set.univ (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases hc0 : cond0_0 i <;> by_cases hc1 : cond0_1 i
  all_goals
    simp only [cc0_ln_bwd_e5m2_eq_skeleton]; unfold cc0_ln_bwd_e5m2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

end Body

end Cert.KernelIdeal.Hand

end
-- ==== Proof.FrameI.lean ====
/-
  The frame of the idealized kernel: every run of the program ends, with the argument arrays unchanged and every
  semaphore counter at zero.
-/
module

public import proofs.«01_k».proof.Proof.BodyI
public import proofs.«01_k».proof.Proof.KitI
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four results are the windows of which the frame says nothing. -/
def isResult : Fin 12 → Bool := fun w => w.val == 8 || w.val == 9 || w.val == 10 || w.val == 11

/-- The proof data of the pipeline on core `c`: the arrays as the region finds them, each input's buffer at its block after every point, nothing
    said of the results, the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
  iapply (body_frame c (grid0.coords t)  _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ isResult := fun t => by
  rw [bigSep_W0, bigSep_W0, defs₀_row]
  exact triple_restated (sound_body m c t) rfl .rfl fun _ => .rfl

set_option backward.isDefEq.respectTransparency.types false in
/-- Every run of the program ends, with its arrays as the proof data say and every semaphore counter at zero. -/
theorem run_frame : θ_run defs (onTc (τ := τ) (main (F := F))) (s₀ m ρ) (fun r => (Pipeline.RDat.FramePost (cfgs 0) (fun c => (dats m 0 c).toRForget isResult) (V m)) r ∧ r.2.sem = fun _ => 0) :=
  Pipeline.θ_run_frame_track_forget (Q' := _) cfgs (dats m) (0 : Fin 1) launch0 defs₀ Variants.none isResult m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: every run ends with the argument arrays unchanged and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (frame_of_rel m ρ (fun c => (dats m 0 c).toRForget isResult) (A_eq m) ((θ_run defs _ _).mono (fun _ h => h.1) (run_frame m ρ)))
    ((θ_run defs _ _).mono (fun _ h => h.2) (run_frame m ρ))

end Cert.KernelIdeal.Hand

end
-- ==== Proof.Spec.lean ====
/-
  What one grid point of the layer-norm backward kernel computes, over the extended reals, as functions of the blocks it is given:
  `x2` the layer's input, `x3` the gradient coming in, `x4` the mean and `x5` the reciprocal standard deviation of each row, `x6` gamma,
  `x7` and `x8` the peers' partial sums, `x1` the peers' counts.
-/
module

public import proofs.«01_k».proof.Proof.OffsetsI
public import Idealize.ShloMosaic.Lib.Pointwise

@[expose] public section

set_option maxRecDepth 16384

noncomputable section

namespace Cert.KernelIdeal.Val

open Cert.KernelIdeal
open Idealize.ShloMosaic Idealize.ShloMosaic.TcCoe

/-- A row's statistic copied along 128 lanes. -/
def along (v : FVec Ideal S8x128 .f32) : FVec Ideal S8x128x128 .f32 := fun y => v (ix2 (y 0) (y 1))

/-- `(dy · rstd) · gamma`. -/
def grV (x3 : FVec Ideal S8x128x1280 .bf16) (x5 : FVec Ideal S8x128 .f32) (x6 : FVec Ideal S1x1280 .f32) : FVec Ideal S8x128x1280 .f32 :=
  fun y => (x3 y * x5 (ix2 (y 0) (y 1))) * x6 (ix2 0 (y 2))

/-- `(dy · rstd) · x`. -/
def prV (x2 x3 : FVec Ideal S8x128x1280 .bf16) (x5 : FVec Ideal S8x128 .f32) : FVec Ideal S8x128x1280 .f32 :=
  fun y => (x3 y * x5 (ix2 (y 0) (y 1))) * x2 y

/-- `((dy · rstd) · x) · gamma`. -/
def gxV (x2 x3 : FVec Ideal S8x128x1280 .bf16) (x5 : FVec Ideal S8x128 .f32) (x6 : FVec Ideal S1x1280 .f32) : FVec Ideal S8x128x1280 .f32 :=
  fun y => ((x3 y * x5 (ix2 (y 0) (y 1))) * x2 y) * x6 (ix2 0 (y 2))

/-- The column `128 q + l` of the 1280. -/
def col (q : Fin 10) (l : Fin 128) : Fin 1280 := ⟨q.val * 128 + l.val, by omega⟩

/-- The sum of an array's ten lane blocks, lane by lane. -/
def fold10 (v : FVec Ideal S8x128x1280 .f32) : FVec Ideal S8x128x128 .f32 :=
  fun y => ∑ q : Fin 10, v (ix3 (y 0) (y 1) (col q (y 2)))

/-- What trip `k` of the first loop adds to row `r`, column `l` of the gamma gradient's eight running rows: the products of its 64 tokens whose
    number is `r` modulo 8. -/
def dgTrip (x2 x3 : FVec Ideal S8x128x1280 .bf16) (x5 : FVec Ideal S8x128 .f32) (k : Fin 16) : FVec Ideal S8x1280 .f32 :=
  fun y => ∑ g : Fin 8, prV x2 x3 x5 (ix3 (⟨k.val / 2, by omega⟩ : Fin 8) (⟨64 * (k.val % 2) + (g.val * 8 + (y 0).val), by have := (y 0).isLt; change (y 0).val < 8 at this; omega⟩ : Fin 128) (y 1))

/-- What the trips below `n` add. -/
def dgTrips (x2 x3 : FVec Ideal S8x128x1280 .bf16) (x5 : FVec Ideal S8x128 .f32) (n : ℕ) : FVec Ideal S8x1280 .f32 :=
  fun y => ∑ k ∈ Finset.range n, if h : k < 16 then dgTrip x2 x3 x5 ⟨k, h⟩ y else 0

/-- `(gr − d) − x · c`, `c` and `d` a number per row. -/
def dxV (G X : FVec Ideal S8x128x1280 .f32) (C D : FVec Ideal S8x128 .f32) : FVec Ideal S8x128x1280 .f32 :=
  fun y => (G y - D (ix2 (y 0) (y 1))) - X y * C (ix2 (y 0) (y 1))

/-- The largest absolute value of 128 numbers. -/
def absmax (f : Fin 128 → EReal) : EReal :=
  Finset.fold max (Ideal.ofBits FTy.f32 4286578688#32) (fun l => (FloatOps.absf (F := Ideal) (φ := .f32) (f l) : EReal)) Finset.univ

/-- The largest power of two a 32-bit float holds that is at most `v`, 0 if there is none. -/
def part (v : EReal) : EReal :=
  Finset.fold max (Ideal.ofBits FTy.f32 4286578688#32)
    (fun k : Fin 256 => if Ideal.ofBits FTy.f32 (IntOp.shli ArithUnit.vector (BitVec.ofNat 32 k.val) 23#32) ≤ v then
      Ideal.ofBits FTy.f32 (IntOp.shli ArithUnit.vector (BitVec.ofNat 32 k.val) 23#32) else 0) Finset.univ

/-- What a block whose largest absolute value is `a` is multiplied by. -/
def invOf (a : EReal) : EReal :=
  if part (a * Ideal.ofBits FTy.f32 932333861#32) = 0 then 1
  else Ideal.div (Ideal.ofBits FTy.f32 1056964608#32) (part (a * Ideal.ofBits FTy.f32 932333861#32))

/-- The scale of a block whose largest absolute value is `a`. -/
def scaleOf (a : EReal) : EReal :=
  if part (a * Ideal.ofBits FTy.f32 932333861#32) = 0 then 1
  else part (a * Ideal.ofBits FTy.f32 932333861#32) * Ideal.ofBits FTy.f32 1073741824#32

/-- The code of `d` in a block whose largest absolute value is `a`. -/
def codeOf (d a : EReal) : EReal :=
  min (Ideal.ofBits FTy.f32 1197473792#32) (max (Ideal.ofBits FTy.f32 3344957440#32) (d * invOf a))

/-- Lane block `q` of row `(b, t)`. -/
def blockOf (v : FVec Ideal S8x128x1280 .f32) (b : Fin 8) (t : Fin 128) (q : Fin 10) : Fin 128 → EReal := fun l => v (ix3 b t (col q l))

/-- The codes of an array, block by block. -/
def codeV (v : FVec Ideal S8x128x1280 .f32) : FVec Ideal S8x128x1280 .fp8e5m2 :=
  fun y => codeOf (v y) (absmax (blockOf v (y 0) (y 1) ⟨(y 2).val / 128, by have := (y 2).isLt; change (y 2).val < 1280 at this; omega⟩))

/-- The block maxima of an array, that of block `q` in column `q`. -/
def amV (v : FVec Ideal S8x128x1280 .f32) : FVec Ideal S8x128x128 .f32 :=
  fun y => if h : (y 2).val < 10 then absmax (blockOf v (y 0) (y 1) ⟨(y 2).val, h⟩) else 0

theorem codeOf_congr {d d' a a' : EReal} (hd : d = d') (ha : a = a') : codeOf d a = codeOf d' a' := by rw [hd, ha]

theorem absmax_congr {f f' : Fin 128 → EReal} (h : ∀ l, f l = f' l) : absmax f = absmax f' := by rw [funext h]

theorem dx_congr {g g' d d' x x' c c' : EReal} (hg : g = g') (hd : d = d') (hx : x = x') (hc : c = c') : (g - d) - x * c = (g' - d') - x' * c' := by
  rw [hg, hd, hx, hc]

theorem dgTrips_succ (x2 x3 : FVec Ideal S8x128x1280 .bf16) (x5 : FVec Ideal S8x128 .f32) {k : ℕ} (hk : k < 16) (y : S8x1280.Idx) :
    (dgTrips x2 x3 x5 (k + 1) y : EReal) = dgTrips x2 x3 x5 k y + dgTrip x2 x3 x5 ⟨k, hk⟩ y := by
  unfold dgTrips
  rw [Finset.sum_range_succ, dif_pos hk]

/-- An index given by its coordinates. -/
theorem ix3_eq {n0 n1 n2 : ℕ} {a : Fin n0} {b : Fin n1} {c : Fin n2} {y : (⟨3, ![n0, n1, n2]⟩ : Shape).Idx}
    (h0 : a.val = (y 0).val) (h1 : b.val = (y 1).val) (h2 : c.val = (y 2).val) : ix3 a b c = y := by
  rw [eq_ix3 y]
  exact (ix3_inj ..).2 ⟨Fin.ext h0, Fin.ext h1, Fin.ext h2⟩

/-- The same in rank 2. -/
theorem ix2_eq {n0 n1 : ℕ} {a : Fin n0} {b : Fin n1} {y : (⟨2, ![n0, n1]⟩ : Shape).Idx}
    (h0 : a.val = (y 0).val) (h1 : b.val = (y 1).val) : ix2 a b = y := by
  rw [eq_ix2 y]
  exact (ix2_inj ..).2 ⟨Fin.ext h0, Fin.ext h1⟩

end Cert.KernelIdeal.Val

end
-- ==== Proof.Reads.lean ====
/-
  Reading one element of a buffer that a list of rectangles was stored into: either the rectangle stored last holds it, or it is read from
  what was stored before.
-/
module

public import Idealize.ShloMosaic.Lib.WritesUnit

@[expose] public section

noncomputable section

namespace Cert.KernelIdeal.Val

open Idealize.ShloMosaic Idealize.ShloMosaic.TcCoe

variable {sig : RefSig} {κ : Kind} {sp : Space} {e : EltTy} {Val : EltTy → Type}

/-- One store into a rank-3 buffer, a unit-stride rectangle of extents `s0 × s1 × s2` at `(o0, o1, o2)`: what is read at `y` afterwards is `T`
    if the stored value is `T` at `y`'s place in the rectangle, and, where `y` is outside it, `T` was read there before. -/
theorem step3 {n : Fin 3 → ℕ} {v : View sig κ sp ⟨3, n⟩ e} {f : v.ty.Contents Val} {off size : Fin 3 → ℕ} (o0 o1 o2 s0 s1 s2 : ℕ)
    {inb : ∀ a, off a + size a ≤ n a} {w : (Rect.unit (s := ⟨3, n⟩) off size inb).shape.Idx → Val e} {L : List (View.Piece Val ⟨3, n⟩ e)}
    {y : (⟨3, n⟩ : Shape).Idx} {T : Val e} (heq : off = ![o0, o1, o2]) (h0 : size 0 = s0) (h1 : size 1 = s1) (h2 : size 2 = s2)
    (hin : ∀ x : (Rect.unit (s := ⟨3, n⟩) off size inb).shape.Idx, (y 0).val = o0 + (x 0).val → (y 1).val = o1 + (x 1).val →
      (y 2).val = o2 + (x 2).val → w x = T)
    (hout : ¬ ((o0 ≤ (y 0).val ∧ (y 0).val < o0 + s0) ∧ (o1 ≤ (y 1).val ∧ (y 1).val < o1 + s1) ∧ (o2 ≤ (y 2).val ∧ (y 2).val < o2 + s2)) →
      v.read Val (v.writes Val f L) y = T) :
    v.read Val (v.writes Val f ((⟨Rect.unit off size inb, w⟩ : View.Piece Val ⟨3, n⟩ e) :: L)) y = T := by
  subst h0 h1 h2
  rw [View.read_writes_cons_unit v f inb w L y heq]
  split
  · next h =>
    refine hin _ ?_ ?_ ?_ <;> rw [Rect.unitLocal_val] <;> [have := h 0; have := h 1; have := h 2]
    · have : o0 ≤ (y 0).val := this.1
      show (y 0).val = o0 + ((y 0).val - o0); omega
    · have : o1 ≤ (y 1).val := this.1
      show (y 1).val = o1 + ((y 1).val - o1); omega
    · have : o2 ≤ (y 2).val := this.1
      show (y 2).val = o2 + ((y 2).val - o2); omega
  · next h =>
    refine hout fun hh => h fun a => ?_
    match a with
    | ⟨0, _⟩ => exact hh.1
    | ⟨1, _⟩ => exact hh.2.1
    | ⟨2, _⟩ => exact hh.2.2

/-- The same of a rank-2 buffer. -/
theorem step2 {n : Fin 2 → ℕ} {v : View sig κ sp ⟨2, n⟩ e} {f : v.ty.Contents Val} {off size : Fin 2 → ℕ} (o0 o1 s0 s1 : ℕ)
    {inb : ∀ a, off a + size a ≤ n a} {w : (Rect.unit (s := ⟨2, n⟩) off size inb).shape.Idx → Val e} {L : List (View.Piece Val ⟨2, n⟩ e)}
    {y : (⟨2, n⟩ : Shape).Idx} {T : Val e} (heq : off = ![o0, o1]) (h0 : size 0 = s0) (h1 : size 1 = s1)
    (hin : ∀ x : (Rect.unit (s := ⟨2, n⟩) off size inb).shape.Idx, (y 0).val = o0 + (x 0).val → (y 1).val = o1 + (x 1).val → w x = T)
    (hout : ¬ ((o0 ≤ (y 0).val ∧ (y 0).val < o0 + s0) ∧ (o1 ≤ (y 1).val ∧ (y 1).val < o1 + s1)) →
      v.read Val (v.writes Val f L) y = T) :
    v.read Val (v.writes Val f ((⟨Rect.unit off size inb, w⟩ : View.Piece Val ⟨2, n⟩ e) :: L)) y = T := by
  subst h0 h1
  rw [View.read_writes_cons_unit v f inb w L y heq]
  split
  · next h =>
    refine hin _ ?_ ?_ <;> rw [Rect.unitLocal_val] <;> [have := h 0; have := h 1]
    · have : o0 ≤ (y 0).val := this.1
      show (y 0).val = o0 + ((y 0).val - o0); omega
    · have : o1 ≤ (y 1).val := this.1
      show (y 1).val = o1 + ((y 1).val - o1); omega
  · next h =>
    refine hout fun hh => h fun a => ?_
    match a with
    | ⟨0, _⟩ => exact hh.1
    | ⟨1, _⟩ => exact hh.2

end Cert.KernelIdeal.Val

end
-- ==== Proof.LoopsV1.lean ====
/-
  The first counted loop's values: after `k` trips the rows it has gone through hold the products, and the eight running rows of the gamma
  gradient hold what the first `k` trips add to them.
-/
module

public import proofs.«01_k».proof.Proof.OffsetsI
public import proofs.«01_k».proof.Proof.Spec
public import Idealize.ShloMosaic.Lib.Tactic
public import proofs.«01_k».proof.Proof.Reads
public import Idealize.ShloMosaic.Lib.Tactic.Stretches
public import Idealize.ShloMosaic.Lib.Pipeline.ValueKit

@[expose] public section

set_option maxRecDepth 16384

noncomputable section

namespace Cert.KernelIdeal.Val

open Cert.KernelIdeal Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- `y` lies in the tokens of the trips below `k`: trip `k` works on 64 tokens of row `k / 2`. -/
def done1 (k : ℕ) (y : S8x128x1280.Idx) : Prop := (y 0).val * 2 + (y 1).val / 64 < k

/-- The same of an index of one lane block. -/
def done1l (k : ℕ) (y : S8x128x128.Idx) : Prop := (y 0).val * 2 + (y 1).val / 64 < k

local notation "𝕄" => MT nD τ sig Unit (Elt Ideal) ℕ (UR sig nD τ) ℕ

/-- What holds before trip `k` of the first loop. -/
def inv1 (c : Dev nD) (arg2 : Memref sig .tc .vmem S8x128x1280 .bf16) (harg2 : arg2.IsWhole) (arg3 : Memref sig .tc .vmem S8x128x1280 .bf16) (harg3 : arg3.IsWhole) (arg6 : Memref sig .tc .vmem S1x1280 .f32) (harg6 : arg6.IsWhole) (arg13 : Memref sig .tc .vmem S8x128x1280 .f32) (harg13 : arg13.IsWhole) (arg14 : Memref sig .tc .vmem S8x128x1280 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg21 : Memref sig .tc .vmem S8x1280 .f32) (harg21 : arg21.IsWhole) (x2 x3 : FVec Ideal S8x128x1280 .bf16) (x5 : FVec Ideal S8x128 .f32) (x6 : FVec Ideal S1x1280 .f32) (x21 : FVec Ideal S8x1280 .f32) (k : ℕ) (_ : PUnit) : sProp 𝕄 :=
  iprop((arg2.view.loc (c : Thread nD τ) ↦[arg2.view.set]{fullShare} (harg2.unread x2)) ∗ (arg3.view.loc (c : Thread nD τ) ↦[arg3.view.set]{fullShare} (harg3.unread x3)) ∗ (arg6.view.loc (c : Thread nD τ) ↦[arg6.view.set]{fullShare} (harg6.unread x6)) ∗ (arg15.view.loc (c : Thread nD τ) ↦[arg15.view.set]{fullShare} (harg15.unread (along x5))) ∗ (∃ f, ⌜∀ y, done1 k y → arg13.view.read (Elt Ideal) f y = grV x3 x5 x6 y⌝ ∗ (arg13.view.loc (c : Thread nD τ) ↦[arg13.view.set]{fullShare} f)) ∗ (∃ f, ⌜∀ y, done1 k y → arg14.view.read (Elt Ideal) f y = x2 y⌝ ∗ (arg14.view.loc (c : Thread nD τ) ↦[arg14.view.set]{fullShare} f)) ∗ (∃ f, ⌜∀ y, done1l k y → arg16.view.read (Elt Ideal) f y = fold10 (grV x3 x5 x6) y⌝ ∗ (arg16.view.loc (c : Thread nD τ) ↦[arg16.view.set]{fullShare} f)) ∗ (∃ f, ⌜∀ y, done1l k y → arg17.view.read (Elt Ideal) f y = fold10 (gxV x2 x3 x5 x6) y⌝ ∗ (arg17.view.loc (c : Thread nD τ) ↦[arg17.view.set]{fullShare} f)) ∗ (∃ f, ⌜∀ y, arg21.view.read (Elt Ideal) f y = (x21 y : EReal) + dgTrips x2 x3 x5 k y⌝ ∗ (arg21.view.loc (c : Thread nD τ) ↦[arg21.view.set]{fullShare} f)))

variable (c : Dev nD) (i : grid0.Coords)
  (arg1 : Memref sig .tc .smem S3 .f32) (harg1 : arg1.IsWhole)
  (arg2 : Memref sig .tc .vmem S8x128x1280 .bf16) (harg2 : arg2.IsWhole)
  (arg3 : Memref sig .tc .vmem S8x128x1280 .bf16) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1x1280 .f32) (harg6 : arg6.IsWhole)
  (arg7 : Memref sig .tc .vmem S3x8x128 .f32) (harg7 : arg7.IsWhole)
  (arg8 : Memref sig .tc .vmem S3x8x128 .f32) (harg8 : arg8.IsWhole)
  (arg9 : Memref sig .tc .vmem S8x128x1280 .fp8e5m2) (harg9 : arg9.IsWhole)
  (arg10 : Memref sig .tc .vmem S10x8x128 .f32) (harg10 : arg10.IsWhole)
  (arg11 : Memref sig .tc .vmem S1x1280 .f32) (harg11 : arg11.IsWhole)
  (arg12 : Memref sig .tc .vmem S1x1280 .f32) (harg12 : arg12.IsWhole)
  (arg13 : Memref sig .tc .vmem S8x128x1280 .f32) (harg13 : arg13.IsWhole)
  (arg14 : Memref sig .tc .vmem S8x128x1280 .f32) (harg14 : arg14.IsWhole)
  (arg15 : Memref sig .tc .vmem S8x128x128 .f32) (harg15 : arg15.IsWhole)
  (arg16 : Memref sig .tc .vmem S8x128x128 .f32) (harg16 : arg16.IsWhole)
  (arg17 : Memref sig .tc .vmem S8x128x128 .f32) (harg17 : arg17.IsWhole)
  (arg18 : Memref sig .tc .vmem S8x128x128 .f32) (harg18 : arg18.IsWhole)
  (arg19 : Memref sig .tc .vmem S8x128x128 .f32) (harg19 : arg19.IsWhole)
  (arg20 : Memref sig .tc .vmem S8x128x128 .f32) (harg20 : arg20.IsWhole)
  (arg21 : Memref sig .tc .vmem S8x1280 .f32) (harg21 : arg21.IsWhole)
  (arg22 : Memref sig .tc .vmem S8x1280 .f32) (harg22 : arg22.IsWhole)

set_option maxHeartbeats 4000000 in
/-- The first loop at the contents it leaves. -/
def loopV1 (x2 x3 : FVec Ideal S8x128x1280 .bf16) (x5 : FVec Ideal S8x128 .f32) (x6 : FVec Ideal S1x1280 .f32) (x21 : FVec Ideal S8x1280 .f32) (v9 : Vec Ideal S8x128 .f32) (v10 : Vec Ideal S8x128 .f32) (v35 : FVec Ideal S128x128 .f32) :
    Gen.LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 v35 where
  inv := inv1 c arg2 harg2 arg3 harg3 arg6 harg6 arg13 harg13 arg14 harg14 arg15 harg15 arg16 harg16 arg17 harg17 arg21 harg21 x2 x3 x5 x6 x21
  step k _ := by
    unfold inv1
    iintro ⟨H2, H3, H6, H15, ⟨%g13, %h13, H13⟩, ⟨%g14, %h14, H14⟩, ⟨%g16, %h16, H16⟩, ⟨%g17, %h17, H17⟩, ⟨%g21, %h21, H21⟩⟩
    sl_unfold [Gen.k0_t1_body]
    sl_exec
    sl_step
    isplitl [H2]; · iexact H2
    isplitl [H3]; · iexact H3
    isplitl [H6]; · iexact H6
    isplitl [H15]; · iexact H15
    isplitl [H13]
    · iexists _; isplitr; swap; · iexact H13
      ipureintro
      intro y hy
      have y0 : (y 0).val < 8 := (y 0).isLt
      have y1 : (y 1).val < 128 := (y 1).isLt
      have y2 : (y 2).val < 1280 := (y 2).isLt
      iterate 10
        refine step3 _ _ _ 1 64 128 (by first | exact off2_eq k | exact off3_eq k | exact off4_eq k | exact off5_eq k | exact off6_eq k | exact off7_eq k | exact off8_eq k | exact off9_eq k | exact off10_eq k | exact off11_eq k) rfl rfl rfl (fun x e0 e1 e2 => ?_) fun hn => ?_
        · have x0 : (x 0).val < 1 := (x 0).isLt
          sl_open_run
          sl_open_pay
          rw [eq_ix3 x]
          pointwise
          simp only [View.readAt_eq_ld, Memref.IsWhole.read_unread]
          pointwise [grV, along]
          repeat' first
            | exact congrArg _ (ix3_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | exact congrArg _ (ix2_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | refine Ideal.mul_congr ?_ ?_
            | refine Ideal.add_congr ?_ ?_
      refine h13 y ?_
      simp only [done1] at hy ⊢
      omega
    isplitl [H14]
    · iexists _; isplitr; swap; · iexact H14
      ipureintro
      intro y hy
      have y0 : (y 0).val < 8 := (y 0).isLt
      have y1 : (y 1).val < 128 := (y 1).isLt
      have y2 : (y 2).val < 1280 := (y 2).isLt
      iterate 10
        refine step3 _ _ _ 1 64 128 (by first | exact off2_eq k | exact off3_eq k | exact off4_eq k | exact off5_eq k | exact off6_eq k | exact off7_eq k | exact off8_eq k | exact off9_eq k | exact off10_eq k | exact off11_eq k) rfl rfl rfl (fun x e0 e1 e2 => ?_) fun hn => ?_
        · have x0 : (x 0).val < 1 := (x 0).isLt
          sl_open_run
          sl_open_pay
          rw [eq_ix3 x]
          pointwise
          simp only [View.readAt_eq_ld, Memref.IsWhole.read_unread]
          pointwise [along]
          repeat' first
            | exact congrArg _ (ix3_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | exact congrArg _ (ix2_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | refine Ideal.mul_congr ?_ ?_
            | refine Ideal.add_congr ?_ ?_
      refine h14 y ?_
      simp only [done1] at hy ⊢
      omega
    isplitl [H16]
    · iexists _; isplitr; swap; · iexact H16
      ipureintro
      intro y hy
      have y0 : (y 0).val < 8 := (y 0).isLt
      have y1 : (y 1).val < 128 := (y 1).isLt
      have y2 : (y 2).val < 128 := (y 2).isLt
      refine step3 _ _ _ 1 64 128 (off1_eq k) rfl rfl rfl (fun x e0 e1 e2 => ?_) fun hn => ?_
      · have x0 : (x 0).val < 1 := (x 0).isLt
        sl_open_run
        sl_open_pay
        rw [eq_ix3 x]
        pointwise
        simp only [View.readAt_eq_ld, Memref.IsWhole.read_unread]
        pointwise [grV, along, fold10, Fin.sum_univ_castSucc, Fin.sum_univ_zero, zero_add, col]
        repeat' first
            | exact congrArg _ (ix3_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | exact congrArg _ (ix2_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | refine Ideal.mul_congr ?_ ?_
            | refine Ideal.add_congr ?_ ?_
      refine h16 y ?_
      simp only [done1l] at hy ⊢
      omega
    isplitl [H17]
    · iexists _; isplitr; swap; · iexact H17
      ipureintro
      intro y hy
      have y0 : (y 0).val < 8 := (y 0).isLt
      have y1 : (y 1).val < 128 := (y 1).isLt
      have y2 : (y 2).val < 128 := (y 2).isLt
      refine step3 _ _ _ 1 64 128 (off1_eq k) rfl rfl rfl (fun x e0 e1 e2 => ?_) fun hn => ?_
      · have x0 : (x 0).val < 1 := (x 0).isLt
        sl_open_run
        sl_open_pay
        rw [eq_ix3 x]
        pointwise
        simp only [View.readAt_eq_ld, Memref.IsWhole.read_unread]
        pointwise [gxV, along, fold10, Fin.sum_univ_castSucc, Fin.sum_univ_zero, zero_add, col]
        repeat' first
            | exact congrArg _ (ix3_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | exact congrArg _ (ix2_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | refine Ideal.mul_congr ?_ ?_
            | refine Ideal.add_congr ?_ ?_
      refine h17 y ?_
      simp only [done1l] at hy ⊢
      omega
    · iexists _; isplitr; swap; · iexact H21
      ipureintro
      intro y
      have y0 : (y 0).val < 8 := (y 0).isLt
      have y1 : (y 1).val < 1280 := (y 1).isLt
      have hk : k.val < 16 := k.isLt
      have hs : dgTrips x2 x3 x5 (k.val + 1) y = dgTrips x2 x3 x5 k.val y + dgTrip x2 x3 x5 ⟨k.val, hk⟩ y := dgTrips_succ x2 x3 x5 hk y
      rw [hs, ← add_assoc, ← h21 y]
      iterate 10
        refine step2 _ _ 8 128 rfl rfl rfl (fun x e0 e1 => ?_) fun hn => ?_
        · sl_open_run
          sl_open_pay
          rw [eq_ix2 x]
          pointwise
          simp only [View.readAt_eq_ld, Memref.IsWhole.read_unread]
          pointwise [dgTrip, prV, along]
          refine Ideal.add_congr (congrArg _ (ix2_eq (by simp <;> omega) (by simp <;> omega))) (Finset.sum_congr rfl fun g _ => ?_)
          repeat' first
            | exact congrArg _ (ix3_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | exact congrArg _ (ix2_eq (by simp [off1_eq, off2_eq, off3_eq, off4_eq, off5_eq, off6_eq, off7_eq, off8_eq, off9_eq, off10_eq, off11_eq] <;> omega) (by simp [off1_eq, off2_eq, off3_eq, off4_eq, off5_eq, off6_eq, off7_eq, off8_eq, off9_eq, off10_eq, off11_eq] <;> omega))
            | refine Ideal.mul_congr ?_ ?_
            | refine Ideal.add_congr ?_ ?_
      exfalso
      omega

end Cert.KernelIdeal.Val

end
-- ==== Proof.LoopsV2.lean ====
/-
  The second counted loop's values: after `k` trips the tokens it has gone through hold their codes, and the block maxima their columns.
-/
module

public import proofs.«01_k».proof.Proof.OffsetsI
public import proofs.«01_k».proof.Proof.Spec
public import Idealize.ShloMosaic.Lib.Tactic
public import proofs.«01_k».proof.Proof.Reads
public import Idealize.ShloMosaic.Lib.Tactic.Stretches
public import Idealize.ShloMosaic.Lib.Pipeline.ValueKit

@[expose] public section

set_option maxRecDepth 16384

noncomputable section

namespace Cert.KernelIdeal.Val

open Cert.KernelIdeal Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- `y` lies in the tokens of the trips below `k`: trip `k` works on 32 tokens of row `k / 4`. -/
def done2 (k : ℕ) (y : S8x128x1280.Idx) : Prop := (y 0).val * 4 + (y 1).val / 32 < k

/-- The same of a column of the block maxima. -/
def done2l (k : ℕ) (y : S8x128x128.Idx) : Prop := (y 0).val * 4 + (y 1).val / 32 < k ∧ (y 2).val < 10

local notation "𝕄" => MT nD τ sig Unit (Elt Ideal) ℕ (UR sig nD τ) ℕ

/-- What holds before trip `k` of the second loop. -/
def inv2 (c : Dev nD) (arg9 : Memref sig .tc .vmem S8x128x1280 .fp8e5m2) (harg9 : arg9.IsWhole) (arg13 : Memref sig .tc .vmem S8x128x1280 .f32) (harg13 : arg13.IsWhole) (arg14 : Memref sig .tc .vmem S8x128x1280 .f32) (harg14 : arg14.IsWhole) (arg18 : Memref sig .tc .vmem S8x128x128 .f32) (harg18 : arg18.IsWhole) (arg19 : Memref sig .tc .vmem S8x128x128 .f32) (harg19 : arg19.IsWhole) (arg20 : Memref sig .tc .vmem S8x128x128 .f32) (harg20 : arg20.IsWhole) (G X : FVec Ideal S8x128x1280 .f32) (C D : FVec Ideal S8x128 .f32) (k : ℕ) (_ : PUnit) : sProp 𝕄 :=
  iprop((arg13.view.loc (c : Thread nD τ) ↦[arg13.view.set]{fullShare} (harg13.unread G)) ∗ (arg14.view.loc (c : Thread nD τ) ↦[arg14.view.set]{fullShare} (harg14.unread X)) ∗ (arg18.view.loc (c : Thread nD τ) ↦[arg18.view.set]{fullShare} (harg18.unread (along C))) ∗ (arg19.view.loc (c : Thread nD τ) ↦[arg19.view.set]{fullShare} (harg19.unread (along D))) ∗ (∃ f, ⌜∀ y, done2 k y → arg9.view.read (Elt Ideal) f y = codeV (dxV G X C D) y⌝ ∗ (arg9.view.loc (c : Thread nD τ) ↦[arg9.view.set]{fullShare} f)) ∗ (∃ f, ⌜∀ y, done2l k y → arg20.view.read (Elt Ideal) f y = amV (dxV G X C D) y⌝ ∗ (arg20.view.loc (c : Thread nD τ) ↦[arg20.view.set]{fullShare} f)))

variable (c : Dev nD) (i : grid0.Coords)
  (arg1 : Memref sig .tc .smem S3 .f32) (harg1 : arg1.IsWhole)
  (arg2 : Memref sig .tc .vmem S8x128x1280 .bf16) (harg2 : arg2.IsWhole)
  (arg3 : Memref sig .tc .vmem S8x128x1280 .bf16) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1x1280 .f32) (harg6 : arg6.IsWhole)
  (arg7 : Memref sig .tc .vmem S3x8x128 .f32) (harg7 : arg7.IsWhole)
  (arg8 : Memref sig .tc .vmem S3x8x128 .f32) (harg8 : arg8.IsWhole)
  (arg9 : Memref sig .tc .vmem S8x128x1280 .fp8e5m2) (harg9 : arg9.IsWhole)
  (arg10 : Memref sig .tc .vmem S10x8x128 .f32) (harg10 : arg10.IsWhole)
  (arg11 : Memref sig .tc .vmem S1x1280 .f32) (harg11 : arg11.IsWhole)
  (arg12 : Memref sig .tc .vmem S1x1280 .f32) (harg12 : arg12.IsWhole)
  (arg13 : Memref sig .tc .vmem S8x128x1280 .f32) (harg13 : arg13.IsWhole)
  (arg14 : Memref sig .tc .vmem S8x128x1280 .f32) (harg14 : arg14.IsWhole)
  (arg15 : Memref sig .tc .vmem S8x128x128 .f32) (harg15 : arg15.IsWhole)
  (arg16 : Memref sig .tc .vmem S8x128x128 .f32) (harg16 : arg16.IsWhole)
  (arg17 : Memref sig .tc .vmem S8x128x128 .f32) (harg17 : arg17.IsWhole)
  (arg18 : Memref sig .tc .vmem S8x128x128 .f32) (harg18 : arg18.IsWhole)
  (arg19 : Memref sig .tc .vmem S8x128x128 .f32) (harg19 : arg19.IsWhole)
  (arg20 : Memref sig .tc .vmem S8x128x128 .f32) (harg20 : arg20.IsWhole)
  (arg21 : Memref sig .tc .vmem S8x1280 .f32) (harg21 : arg21.IsWhole)
  (arg22 : Memref sig .tc .vmem S8x1280 .f32) (harg22 : arg22.IsWhole)

set_option maxHeartbeats 4000000 in
/-- The second loop at the contents it leaves. -/
def loopV2 (G X : FVec Ideal S8x128x1280 .f32) (C D : FVec Ideal S8x128 .f32) (v393 : FVec Ideal S128x128 .f32) :
    Gen.LoopInvTy_k0_t2 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 where
  inv := inv2 c arg9 harg9 arg13 harg13 arg14 harg14 arg18 harg18 arg19 harg19 arg20 harg20 G X C D
  step k _ := by
    unfold inv2
    iintro ⟨H13, H14, H18, H19, ⟨%g9, %h9, H9⟩, ⟨%g20, %h20, H20⟩⟩
    sl_unfold [Gen.k0_t2_body]
    sl_exec
    sl_step
    isplitl [H13]; · iexact H13
    isplitl [H14]; · iexact H14
    isplitl [H18]; · iexact H18
    isplitl [H19]; · iexact H19
    isplitl [H9]
    · iexists _; isplitr; swap; · iexact H9
      ipureintro
      intro y hy
      have y0 : (y 0).val < 8 := (y 0).isLt
      have y1 : (y 1).val < 128 := (y 1).isLt
      have y2 : (y 2).val < 1280 := (y 2).isLt
      iterate 10
        refine step3 _ _ _ 1 32 128 (by first | exact off13_eq k | exact off15_eq k | exact off17_eq k | exact off19_eq k | exact off21_eq k | exact off23_eq k | exact off25_eq k | exact off27_eq k | exact off29_eq k | exact off31_eq k) rfl rfl rfl (fun x e0 e1 e2 => ?_) fun hn => ?_
        · have x0 : (x 0).val < 1 := (x 0).isLt
          have x2 : (x 2).val < 128 := (x 2).isLt
          sl_open_run
          sl_open_pay
          rw [eq_ix3 x]
          pointwise
          simp only [View.readAt_eq_ld, Memref.IsWhole.read_unread]
          pointwise [along]
          unfold codeV
          refine codeOf_congr (dx_congr (congrArg _ (ix3_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega))) (congrArg _ (ix2_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega))) (congrArg _ (ix3_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega))) (congrArg _ (ix2_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega)))) (absmax_congr fun l => ?_)
          exact dx_congr (congrArg _ (ix3_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega))) (congrArg _ (ix2_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega))) (congrArg _ (ix3_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega))) (congrArg _ (ix2_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega)))
      refine h9 y ?_
      simp only [done2] at hy ⊢
      omega
    · iexists _; isplitr; swap; · iexact H20
      ipureintro
      intro y hy
      have y0 : (y 0).val < 8 := (y 0).isLt
      have y1 : (y 1).val < 128 := (y 1).isLt
      have hy2 := hy.2
      iterate 10
        refine step3 _ _ _ 1 32 1 (by first | exact off14_eq k | exact off16_eq k | exact off18_eq k | exact off20_eq k | exact off22_eq k | exact off24_eq k | exact off26_eq k | exact off28_eq k | exact off30_eq k | exact off32_eq k) rfl rfl rfl (fun x e0 e1 e2 => ?_) fun hn => ?_
        · have x0 : (x 0).val < 1 := (x 0).isLt
          have x2 : (x 2).val < 1 := (x 2).isLt
          sl_open_run
          sl_open_pay
          rw [eq_ix3 x]
          pointwise
          simp only [View.readAt_eq_ld, Memref.IsWhole.read_unread]
          pointwise [along]
          unfold amV
          rw [dif_pos hy2]
          refine absmax_congr fun l => ?_
          exact dx_congr (congrArg _ (ix3_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega))) (congrArg _ (ix2_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega))) (congrArg _ (ix3_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, col] <;> omega))) (congrArg _ (ix2_eq (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega) (by simp [off12_eq, off13_eq, off14_eq, off15_eq, off16_eq, off17_eq, off18_eq, off19_eq, off20_eq, off21_eq, off22_eq, off23_eq, off24_eq, off25_eq, off26_eq, off27_eq, off28_eq, off29_eq, off30_eq, off31_eq, off32_eq, along] <;> omega)))
      refine h20 y ?_
      simp only [done2l] at hy ⊢
      omega

end Cert.KernelIdeal.Val

end
-- ==== Proof.SpecB.lean ====
module

public import proofs.«01_k».proof.Proof.Spec
public import proofs.«01_k».proof.Proof.KitI

/-!
What one grid point of the kernel leaves in its output blocks and its two accumulators, written over the blocks it is given.
-/

@[expose] public section

noncomputable section

namespace Cert.KernelIdeal.Val

open Cert.KernelIdeal Cert.KernelIdeal.Hand
open Idealize.ShloMosaic Idealize.ShloMosaic.TcCoe

/-- An accumulator at the start of a point's work: cleared at the first point. -/
def ite0 (i : grid0.Coords) (x : FVec Ideal S8x1280 .f32) : FVec Ideal S8x1280 .f32 := fun y => if cond0_0 i then 0 else x y

/-- The number of features over all ranks. -/
def nV (x1 : FVec Ideal S3 .f32) : EReal :=
  ((x1 (ix1 0) + x1 (ix1 1)) + x1 (ix1 2)) + Ideal.ofBits FTy.f32 1151336448#32

/-- A row's `Σ gr`. -/
def s1V (x3 : FVec Ideal S8x128x1280 .bf16) (x5 : FVec Ideal S8x128 .f32) (x6 : FVec Ideal S1x1280 .f32) (b : Fin 8) (t : Fin 128) : EReal :=
  ∑ l : Fin 128, fold10 (grV x3 x5 x6) (ix3 b t l)

/-- A row's `Σ gx`. -/
def sxV (x2 x3 : FVec Ideal S8x128x1280 .bf16) (x5 : FVec Ideal S8x128 .f32) (x6 : FVec Ideal S1x1280 .f32) (b : Fin 8) (t : Fin 128) : EReal :=
  ∑ l : Fin 128, fold10 (gxV x2 x3 x5 x6) (ix3 b t l)

/-- The three other ranks' sums. -/
def peerV (x : FVec Ideal S3x8x128 .f32) (b : Fin 8) (t : Fin 128) : EReal := (x (ix3 0 b t) + x (ix3 1 b t)) + x (ix3 2 b t)

/-- The factor of `x` in the gradient of a row. -/
def cV (x1 : FVec Ideal S3 .f32) (x2 x3 : FVec Ideal S8x128x1280 .bf16) (x4 x5 : FVec Ideal S8x128 .f32) (x6 : FVec Ideal S1x1280 .f32)
    (x8 : FVec Ideal S3x8x128 .f32) : FVec Ideal S8x128 .f32 :=
  fun y => (x5 y * x5 y) *
    Ideal.div (peerV x8 (y 0) (y 1) + (sxV x2 x3 x5 x6 (y 0) (y 1) - x4 y * s1V x3 x5 x6 (y 0) (y 1))) (nV x1)

/-- What is taken off `gr` in the gradient of a row. -/
def dV (x1 : FVec Ideal S3 .f32) (x2 x3 : FVec Ideal S8x128x1280 .bf16) (x4 x5 : FVec Ideal S8x128 .f32) (x6 : FVec Ideal S1x1280 .f32)
    (x7 x8 : FVec Ideal S3x8x128 .f32) : FVec Ideal S8x128 .f32 :=
  fun y => Ideal.div (peerV x7 (y 0) (y 1) * x5 y + s1V x3 x5 x6 (y 0) (y 1)) (nV x1) - x4 y * cV x1 x2 x3 x4 x5 x6 x8 y

/-- The gradient of a block's tokens. -/
def gradV (x1 : FVec Ideal S3 .f32) (x2 x3 : FVec Ideal S8x128x1280 .bf16) (x4 x5 : FVec Ideal S8x128 .f32) (x6 : FVec Ideal S1x1280 .f32)
    (x7 x8 : FVec Ideal S3x8x128 .f32) : FVec Ideal S8x128x1280 .f32 :=
  dxV (grV x3 x5 x6) x2 (cV x1 x2 x3 x4 x5 x6 x8) (dV x1 x2 x3 x4 x5 x6 x7 x8)

/-- The scales of an array, block `q` of row `(b, t)` at `(q, b, t)`. -/
def scaleV (v : FVec Ideal S8x128x1280 .f32) : FVec Ideal S10x8x128 .f32 :=
  fun y => scaleOf (absmax (blockOf v (y 1) (y 2) (y 0)))

/-- Row `r` of the left factor of the products for the beta gradient: ones, `mean · rstd` and its two rounding remainders, zeros. -/
def lhsV (x4 x5 : FVec Ideal S8x128 .f32) (b : Fin 8) (r : Fin 8) (t : Fin 128) : EReal :=
  if r.val = 0 then 1
  else if r.val = 1 then x4 (ix2 b t) * x5 (ix2 b t)
  else if r.val = 2 then x4 (ix2 b t) * x5 (ix2 b t) - x4 (ix2 b t) * x5 (ix2 b t)
  else if r.val = 3 then
    (x4 (ix2 b t) * x5 (ix2 b t) - x4 (ix2 b t) * x5 (ix2 b t)) - (x4 (ix2 b t) * x5 (ix2 b t) - x4 (ix2 b t) * x5 (ix2 b t))
  else 0

/-- Row `r` of batch row `b` against the output gradient. -/
def dbRow (x3 : FVec Ideal S8x128x1280 .bf16) (x4 x5 : FVec Ideal S8x128 .f32) (b : Fin 8) : FVec Ideal S8x1280 .f32 :=
  fun y => ∑ t : Fin 128, lhsV x4 x5 b (y 0) t * x3 (ix3 b t (y 1))

/-- The second accumulator after a point. -/
def dbN (i : grid0.Coords) (x3 : FVec Ideal S8x128x1280 .bf16) (x4 x5 : FVec Ideal S8x128 .f32) (x22 : FVec Ideal S8x1280 .f32) : FVec Ideal S8x1280 .f32 :=
  fun y => ite0 i x22 y + ∑ b : Fin 8, dbRow x3 x4 x5 b y

/-- The first accumulator after a point. -/
def dgN (i : grid0.Coords) (x2 x3 : FVec Ideal S8x128x1280 .bf16) (x5 : FVec Ideal S8x128 .f32) (x21 : FVec Ideal S8x1280 .f32) : FVec Ideal S8x1280 .f32 :=
  fun y => ite0 i x21 y + dgTrips x2 x3 x5 16 y

/-- The beta gradient, from the second accumulator. -/
def betaV (db : FVec Ideal S8x1280 .f32) : FVec Ideal S1x1280 .f32 := fun y => db (ix2 0 (y 1))

/-- The gamma gradient, from both accumulators. -/
def gammaV (dg db : FVec Ideal S8x1280 .f32) : FVec Ideal S1x1280 .f32 :=
  fun y => (∑ r : Fin 8, dg (ix2 r (y 1))) - ((db (ix2 1 (y 1)) + db (ix2 2 (y 1))) + db (ix2 3 (y 1)))

theorem sub_congr' {a a' b b' : EReal} (ha : a = a') (hb : b = b') : a - b = a' - b' := by rw [ha, hb]

theorem scaleOf_congr {a a' : EReal} (h : a = a') : scaleOf a = scaleOf a' := by rw [h]

theorem div_congr' {a a' b b' : EReal} (ha : a = a') (hb : b = b') : Ideal.div a b = Ideal.div a' b' := by rw [ha, hb]

end Cert.KernelIdeal.Val

end
-- ==== Proof.DbPay.lean ====
module

public import proofs.«01_k».proof.Proof.SpecB
public import proofs.«01_k».proof.Proof.LoopsV1
public import Idealize.ShloMosaic.Lib.Tactic.Stretches
public import Idealize.ShloMosaic.Lib.Pipeline.ValueKit

@[expose] public section
set_option maxRecDepth 16384
noncomputable section
namespace Cert.KernelIdeal.Val
open Cert.KernelIdeal Cert.KernelIdeal.Gen Cert.KernelIdeal.Hand
open scoped BigOperators
open Idealize.ShloMosaic Idealize.ShloMosaic.TcCoe Idealize.ShloMosaic.Tactic

/-- Row `r` of an eight-row array, by cases. -/
theorem fin8_cases {p : Fin 8 → Prop} (h0 : p 0) (h1 : p 1) (h2 : p 2) (h3 : p 3) (h4 : ∀ r : Fin 8, 4 ≤ r.val → p r) (r : Fin 8) : p r := by
  match r with
  | 0 => exact h0
  | 1 => exact h1
  | 2 => exact h2
  | 3 => exact h3
  | ⟨k + 4, h⟩ => exact h4 _ (by simp)

/-- The product of batch row 0 adds its row to what the accumulator holds. -/
theorem db0 (x4 x5 : FVec Ideal S8x128 .f32) (A : FVec Ideal S8x1280 .f32) (d : FVec Ideal S1x128x1280 .bf16) :
    k0_pay183 (F := Ideal) (k0_pay175 x4 x5) (k0_pay176 x4 x5) (k0_pay177 x4 x5) A d = fun y => (A y : EReal) + ∑ t : Fin 128, lhsV x4 x5 0 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

/-- The product of batch row 1 adds its row to what the accumulator holds. -/
theorem db1 (x4 x5 : FVec Ideal S8x128 .f32) (A : FVec Ideal S8x1280 .f32) (d : FVec Ideal S1x128x1280 .bf16) :
    k0_pay184 (F := Ideal) (k0_pay175 x4 x5) (k0_pay176 x4 x5) (k0_pay177 x4 x5) A d = fun y => (A y : EReal) + ∑ t : Fin 128, lhsV x4 x5 1 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

/-- The product of batch row 2 adds its row to what the accumulator holds. -/
theorem db2 (x4 x5 : FVec Ideal S8x128 .f32) (A : FVec Ideal S8x1280 .f32) (d : FVec Ideal S1x128x1280 .bf16) :
    k0_pay186 (F := Ideal) (k0_pay185 (k0_pay175 x4 x5) (k0_pay176 x4 x5) (k0_pay177 x4 x5)) A d = fun y => (A y : EReal) + ∑ t : Fin 128, lhsV x4 x5 2 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

/-- The product of batch row 3 adds its row to what the accumulator holds. -/
theorem db3 (x4 x5 : FVec Ideal S8x128 .f32) (A : FVec Ideal S8x1280 .f32) (d : FVec Ideal S1x128x1280 .bf16) :
    k0_pay187 (F := Ideal) (k0_pay176 x4 x5) (k0_pay179 (k0_pay175 x4 x5) (k0_pay177 x4 x5)) (k0_pay180 (k0_pay175 x4 x5) (k0_pay177 x4 x5)) (k0_pay181 (F := Ideal)) (k0_pay182 (F := Ideal)) A d = fun y => (A y : EReal) + ∑ t : Fin 128, lhsV x4 x5 3 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

/-- The product of batch row 4 adds its row to what the accumulator holds. -/
theorem db4 (x4 x5 : FVec Ideal S8x128 .f32) (A : FVec Ideal S8x1280 .f32) (d : FVec Ideal S1x128x1280 .bf16) :
    k0_pay188 (F := Ideal) (k0_pay176 x4 x5) (k0_pay179 (k0_pay175 x4 x5) (k0_pay177 x4 x5)) (k0_pay180 (k0_pay175 x4 x5) (k0_pay177 x4 x5)) (k0_pay181 (F := Ideal)) (k0_pay182 (F := Ideal)) A d = fun y => (A y : EReal) + ∑ t : Fin 128, lhsV x4 x5 4 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

/-- The product of batch row 5 adds its row to what the accumulator holds. -/
theorem db5 (x4 x5 : FVec Ideal S8x128 .f32) (A : FVec Ideal S8x1280 .f32) (d : FVec Ideal S1x128x1280 .bf16) :
    k0_pay190 (F := Ideal) (k0_pay189 (k0_pay176 x4 x5) (k0_pay179 (k0_pay175 x4 x5) (k0_pay177 x4 x5)) (k0_pay180 (k0_pay175 x4 x5) (k0_pay177 x4 x5)) (k0_pay181 (F := Ideal)) (k0_pay182 (F := Ideal))) A d = fun y => (A y : EReal) + ∑ t : Fin 128, lhsV x4 x5 5 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

/-- The product of batch row 6 adds its row to what the accumulator holds. -/
theorem db6 (x4 x5 : FVec Ideal S8x128 .f32) (A : FVec Ideal S8x1280 .f32) (d : FVec Ideal S1x128x1280 .bf16) :
    k0_pay191 (F := Ideal) (k0_pay176 x4 x5) (k0_pay179 (k0_pay175 x4 x5) (k0_pay177 x4 x5)) (k0_pay180 (k0_pay175 x4 x5) (k0_pay177 x4 x5)) (k0_pay181 (F := Ideal)) (k0_pay182 (F := Ideal)) A d = fun y => (A y : EReal) + ∑ t : Fin 128, lhsV x4 x5 6 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

/-- The product of batch row 7 adds its row to what the accumulator holds. -/
theorem db7 (x4 x5 : FVec Ideal S8x128 .f32) (A : FVec Ideal S8x1280 .f32) (d : FVec Ideal S1x128x1280 .bf16) :
    k0_pay192 (F := Ideal) (k0_pay176 x4 x5) (k0_pay179 (k0_pay175 x4 x5) (k0_pay177 x4 x5)) (k0_pay180 (k0_pay175 x4 x5) (k0_pay177 x4 x5)) (k0_pay181 (F := Ideal)) (k0_pay182 (F := Ideal)) A d = fun y => (A y : EReal) + ∑ t : Fin 128, lhsV x4 x5 7 (y 0) t * (d (ix3 0 t (y 1)) : EReal) := by
  funext y
  sl_open_pay
  rw [eq_ix2 y]
  pointwise
  refine congrArg _ (Finset.sum_congr rfl fun t _ => Ideal.mul_congr ?_ rfl)
  generalize y 0 = r
  revert r
  refine fin8_cases ?_ ?_ ?_ ?_ fun r hr => ?_
  · simp [lhsV]
  · simp [lhsV]; try rfl
  · simp [lhsV]; try rfl
  · simp [lhsV]; try rfl
  · unfold lhsV
    simp [show ¬ r.val = 0 by omega, show ¬ r.val = 1 by omega, show ¬ r.val = 2 by omega, show ¬ r.val = 3 by omega, show ¬ r.val < 1 by omega, show ¬ r.val - 1 < 1 by omega, show ¬ r.val - 1 - 1 < 1 by omega, show ¬ r.val - 1 - 1 - 1 < 1 by omega]

end Cert.KernelIdeal.Val

end
-- ==== Proof.FullV.lean ====
/-
  A load or a store of a whole accumulator: what is read is what was stored.
-/
module

public import proofs.«01_k».proof.Proof.SpecB
public import Idealize.ShloMosaic.Lib.VecWindow
public import Idealize.ShloMosaic.Lib.Tactic.Stretches
public import Idealize.ShloMosaic.Lib.Pipeline.ValueKit

@[expose] public section

noncomputable section

namespace Cert.KernelIdeal.Val

open Cert.KernelIdeal
open Idealize.ShloMosaic Idealize.ShloMosaic.TcCoe

variable {κ : Kind} {sp : Space}

/-- A load of a whole accumulator after a store of the whole of it. -/
theorem readCov_acc (v : View sig κ sp S8x1280 .f32) (inb inb' : ∀ a, (![0, 0] : Fin 2 → ℕ) a + (![8, 1280] : Fin 2 → ℕ) a ≤ S8x1280.size a)
    (w : (Rect.unit (s := S8x1280) ![0, 0] ![8, 1280] inb').shape.Idx → Elt Ideal .f32) (L : List (View.Piece (Elt Ideal) S8x1280 .f32)) :
    v.readCov (⟨Rect.unit (s := S8x1280) ![0, 0] ![8, 1280] inb', w⟩ :: L) (Rect.unit (s := S8x1280) ![0, 0] ![8, 1280] inb).toLoadRect = w :=
  View.readCov_full v inb inb' w L

theorem zeros : (![0, 0] : Fin 2 → ℕ) = fun _ => 0 := by decide

/-- The whole of an accumulator, as a rectangle of it. -/
theorem ld_acc (inb : ∀ a, (![0, 0] : Fin 2 → ℕ) a + (![8, 1280] : Fin 2 → ℕ) a ≤ S8x1280.size a) (X : FVec Ideal S8x1280 .f32) :
    View.ld (Val := Elt Ideal) (e' := .f32) X (Rect.unit (s := S8x1280) ![0, 0] ![8, 1280] inb) = X := by
  funext y
  refine congrArg X (funext fun a => Fin.ext ?_)
  show (![0, 0] : Fin 2 → ℕ) a + 1 * (y a).val = (y a).val
  rw [show (![0, 0] : Fin 2 → ℕ) a = 0 from congrFun zeros a, Nat.zero_add, Nat.one_mul]

/-- The whole of a block of statistics, as a rectangle of it. -/
theorem ld_stat (inb : ∀ a, (![0, 0] : Fin 2 → ℕ) a + (![8, 128] : Fin 2 → ℕ) a ≤ S8x128.size a) (X : FVec Ideal S8x128 .f32) :
    View.ld (Val := Elt Ideal) (e' := .f32) X (Rect.unit (s := S8x128) ![0, 0] ![8, 128] inb) = X := by
  funext y
  refine congrArg X (funext fun a => Fin.ext ?_)
  show (![0, 0] : Fin 2 → ℕ) a + 1 * (y a).val = (y a).val
  rw [show (![0, 0] : Fin 2 → ℕ) a = 0 from congrFun zeros a, Nat.zero_add, Nat.one_mul]

end Cert.KernelIdeal.Val

end
-- ==== Proof.CdPay.lean ====
/-
  The factors of a row's gradient, computed from the row sums that the kernel takes plane by plane.
-/
module

public import proofs.«01_k».proof.Proof.FullV
public import proofs.«01_k».proof.Proof.LoopsV1

@[expose] public section

set_option maxRecDepth 16384

noncomputable section

namespace Cert.KernelIdeal.Val

open Cert.KernelIdeal Cert.KernelIdeal.Gen Cert.KernelIdeal.Hand
open scoped BigOperators
open Idealize.ShloMosaic Idealize.ShloMosaic.TcCoe Idealize.ShloMosaic.Tactic

/-- Plane `k` of a folded block. -/
def plane (A : FVec Ideal S8x128x128 .f32) (k : ℕ) : FVec Ideal S1x128x128 .f32 :=
  fun z => if h : k < 8 then A (ix3 ⟨k, h⟩ (z 1) (z 2)) else 0

/-- Slab `k` of the other ranks' sums. -/
def slab (A : FVec Ideal S3x8x128 .f32) (k : ℕ) : FVec Ideal S1x8x128 .f32 :=
  fun z => if h : k < 3 then A (ix3 ⟨k, h⟩ (z 1) (z 2)) else 0

/-- A load of one plane. -/
theorem ld_plane (A : FVec Ideal S8x128x128 .f32) (k : ℕ)
    (inb : ∀ a, (![k, 0, 0] : Fin 3 → ℕ) a + S1x128x128.size a ≤ S8x128x128.size a) :
    View.ld (Val := Elt Ideal) (e' := .f32) A (Rect.unit (s := S8x128x128) ![k, 0, 0] S1x128x128.size inb) = plane A k := by
  have hk : k < 8 := inb 0
  funext z
  have z0 : (z 0).val < 1 := (z 0).isLt
  refine Eq.trans ?_ (dif_pos hk).symm
  refine congrArg A (funext fun a => Fin.ext ?_)
  match a with
  | 0 => show k + 1 * (z 0).val = k; omega
  | 1 => show 0 + 1 * (z 1).val = (z 1).val; omega
  | 2 => show 0 + 1 * (z 2).val = (z 2).val; omega

/-- A load of one slab. -/
theorem ld_slab (A : FVec Ideal S3x8x128 .f32) (k : ℕ)
    (inb : ∀ a, (![k, 0, 0] : Fin 3 → ℕ) a + S1x8x128.size a ≤ S3x8x128.size a) :
    View.ld (Val := Elt Ideal) (e' := .f32) A (Rect.unit (s := S3x8x128) ![k, 0, 0] S1x8x128.size inb) = slab A k := by
  have hk : k < 3 := inb 0
  funext z
  have z0 : (z 0).val < 1 := (z 0).isLt
  refine Eq.trans ?_ (dif_pos hk).symm
  refine congrArg A (funext fun a => Fin.ext ?_)
  match a with
  | 0 => show k + 1 * (z 0).val = k; omega
  | 1 => show 0 + 1 * (z 1).val = (z 1).val; omega
  | 2 => show 0 + 1 * (z 2).val = (z 2).val; omega

/-- A load of one of three scalars. -/
theorem ld_one (A : FVec Ideal S3 .f32) (k : ℕ) (inb : ∀ a, (![k] : Fin 1 → ℕ) a + S1.size a ≤ S3.size a)
    (z : (Rect.unit (s := S3) ![k] S1.size inb).shape.Idx) :
    View.ld (Val := Elt Ideal) (e' := .f32) A (Rect.unit (s := S3) ![k] S1.size inb) z = A (ix1 ⟨k, inb 0⟩) := by
  have z0 : (z 0).val < 1 := (z 0).isLt
  refine congrArg A (funext fun a => Fin.ext ?_)
  match a with
  | 0 => show k + 1 * (z 0).val = k; omega

/-- Every row of eight, one at a time. -/
theorem fin8_all {p : Fin 8 → Prop} (h0 : p 0) (h1 : p 1) (h2 : p 2) (h3 : p 3) (h4 : p 4) (h5 : p 5) (h6 : p 6) (h7 : p 7) (r : Fin 8) : p r := by
  match r with
  | 0 => exact h0
  | 1 => exact h1
  | 2 => exact h2
  | 3 => exact h3
  | 4 => exact h4
  | 5 => exact h5
  | 6 => exact h6
  | 7 => exact h7

/-- The sums of the rows of a folded block. -/
def rowSum (A : FVec Ideal S8x128x128 .f32) : FVec Ideal S8x128 .f32 := fun y => (∑ l : Fin 128, A (ix3 (y 0) (y 1) l) : EReal)

/-- The eight planes' row sums, put together. -/
theorem rows200 (A : FVec Ideal S8x128x128 .f32) : (k0_pay200 (k0_pay193 (plane A 0)) (k0_pay194 (plane A 1)) (k0_pay195 (plane A 2)) (k0_pay196 (plane A 3)) (k0_pay197 (plane A 4)) (k0_pay198 (plane A 5)) (k0_pay199 (plane A 6)) (plane A 7)) = rowSum A := by
  funext y
  rw [eq_ix2 y]
  generalize y 0 = b
  generalize y 1 = t
  revert b
  refine fin8_all ?_ ?_ ?_ ?_ ?_ ?_ ?_ ?_ <;>
  · sl_open_pay
    pointwise
    rfl

/-- The eight planes' row sums less `mean` times those of another block. -/
theorem rows207 (x4 S : FVec Ideal S8x128 .f32) (B : FVec Ideal S8x128x128 .f32) :
    (k0_pay207 x4 S (k0_pay201 (plane B 0)) (k0_pay202 (plane B 1)) (k0_pay203 (plane B 2)) (k0_pay204 (plane B 3)) (k0_pay205 (plane B 4)) (k0_pay206 (plane B 5)) (plane B 6) (plane B 7)) = fun y => (rowSum B y - x4 y * S y : EReal) := by
  funext y
  rw [eq_ix2 y]
  generalize y 0 = b
  generalize y 1 = t
  revert b
  refine fin8_all ?_ ?_ ?_ ?_ ?_ ?_ ?_ ?_ <;>
  · sl_open_pay
    pointwise
    refine sub_congr' ?_ rfl
    rfl

/-- The factor of `x`, as the kernel computes it from the planes. -/
theorem c_eq (x1 : FVec Ideal S3 .f32) (x2 x3 : FVec Ideal S8x128x1280 .bf16) (x4 x5 : FVec Ideal S8x128 .f32) (x6 : FVec Ideal S1x1280 .f32)
    (x8 : FVec Ideal S3x8x128 .f32) :
    k0_pay211 (k0_pay161 (x1 (ix1 ⟨0, by decide⟩)) (x1 (ix1 ⟨1, by decide⟩)) (x1 (ix1 ⟨2, by decide⟩))) x5 (fun y => (rowSum (fold10 (gxV x2 x3 x5 x6)) y - x4 y * rowSum (fold10 (grV x3 x5 x6)) y : EReal)) (k0_pay209 (slab x8 0) (slab x8 1)) (k0_pay210 (slab x8 2)) = cV x1 x2 x3 x4 x5 x6 x8 := by
  funext y
  rw [eq_ix2 y]
  sl_open_pay
  pointwise [cV, peerV, nV, sxV, s1V, rowSum]
  rfl

/-- What is taken off `gr`, as the kernel computes it from the planes. -/
theorem d_eq (x1 : FVec Ideal S3 .f32) (x2 x3 : FVec Ideal S8x128x1280 .bf16) (x4 x5 : FVec Ideal S8x128 .f32) (x6 : FVec Ideal S1x1280 .f32)
    (x7 x8 : FVec Ideal S3x8x128 .f32) :
    k0_pay212 (k0_pay161 (x1 (ix1 ⟨0, by decide⟩)) (x1 (ix1 ⟨1, by decide⟩)) (x1 (ix1 ⟨2, by decide⟩))) x4 x5 (fun y => (rowSum (fold10 (gxV x2 x3 x5 x6)) y - x4 y * rowSum (fold10 (grV x3 x5 x6)) y : EReal))
      (k0_pay208 x5 (rowSum (fold10 (grV x3 x5 x6))) (slab x7 0) (slab x7 1) (slab x7 2)) (k0_pay209 (slab x8 0) (slab x8 1)) (k0_pay210 (slab x8 2)) = dV x1 x2 x3 x4 x5 x6 x7 x8 := by
  rw [k0_pay212, c_eq]
  funext y
  rw [eq_ix2 y]
  sl_open_pay
  pointwise [dV, peerV, nV, sxV, s1V, rowSum]
  rfl

end Cert.KernelIdeal.Val

end
-- ==== Proof.ScPay.lean ====
/-
  The scales of a batch row, computed from the plane of its block maxima.
-/
module

public import proofs.«01_k».proof.Proof.SpecB
public import proofs.«01_k».proof.Proof.LoopsV1
public import Idealize.ShloMosaic.Lib.Tactic.Stretches

@[expose] public section

set_option maxRecDepth 16384

noncomputable section

namespace Cert.KernelIdeal.Val

open Cert.KernelIdeal Cert.KernelIdeal.Gen Cert.KernelIdeal.Hand
open scoped BigOperators
open Idealize.ShloMosaic Idealize.ShloMosaic.TcCoe Idealize.ShloMosaic.Tactic

/-- The scales of the blocks whose maxima the first lanes of a plane hold, block `q` of token `t` at `(q, t)`. -/
def scales16 (w : FVec Ideal S1x128x128 .f32) : FVec Ideal S16x128 .f32 :=
  fun y => scaleOf (w (ix3 0 (y 1) ⟨(y 0).val, Nat.lt_trans (y 0).isLt (by decide)⟩))

/-- Batch row 0's scales, from its plane of block maxima. -/
theorem sc232 (w : FVec Ideal S1x128x128 .f32) : k0_pay232 (F := Ideal) w = scales16 w := by
  funext y
  rw [eq_ix2 y]
  sl_open_pay
  pointwise
  rfl

/-- Batch row 1's scales, from its plane of block maxima. -/
theorem sc244 (w : FVec Ideal S1x128x128 .f32) : k0_pay244 (F := Ideal) w = scales16 w := by
  funext y
  rw [eq_ix2 y]
  sl_open_pay
  pointwise
  rfl

/-- Batch row 2's scales, from its plane of block maxima. -/
theorem sc255 (w : FVec Ideal S1x128x128 .f32) : k0_pay255 (F := Ideal) w = scales16 w := by
  funext y
  rw [eq_ix2 y]
  sl_open_pay
  pointwise
  rfl

/-- Batch row 3's scales, from its plane of block maxima. -/
theorem sc267 (w : FVec Ideal S1x128x128 .f32) : k0_pay267 (F := Ideal) (k0_pay266 (F := Ideal) w) (iota Kind.tc S256x16x128 32 [0] iota_S256x16x128_d0_w32) 23#32 = scales16 w := by
  funext y
  rw [eq_ix2 y]
  sl_open_pay
  pointwise
  rfl

/-- Batch row 4's scales, from its plane of block maxima. -/
theorem sc281 (w : FVec Ideal S1x128x128 .f32) : k0_pay281 (F := Ideal) (k0_pay278 (F := Ideal)) (k0_pay279 (F := Ideal) w) (k0_pay280 (F := Ideal)) = scales16 w := by
  funext y
  rw [eq_ix2 y]
  sl_open_pay
  pointwise
  rfl

/-- Batch row 5's scales, from its plane of block maxima. -/
theorem sc295 (w : FVec Ideal S1x128x128 .f32) : k0_pay295 (F := Ideal) (k0_pay292 (F := Ideal) w) (k0_pay293 (F := Ideal) w) (k0_pay294 (F := Ideal)) = scales16 w := by
  funext y
  rw [eq_ix2 y]
  sl_open_pay
  pointwise
  rfl

/-- Batch row 6's scales, from its plane of block maxima. -/
theorem sc306 (w : FVec Ideal S1x128x128 .f32) : k0_pay306 (F := Ideal) w = scales16 w := by
  funext y
  rw [eq_ix2 y]
  sl_open_pay
  pointwise
  rfl

/-- Batch row 7's scales, from its plane of block maxima. -/
theorem sc318 (w : FVec Ideal S1x128x128 .f32) : k0_pay318 (F := Ideal) w = scales16 w := by
  funext y
  rw [eq_ix2 y]
  sl_open_pay
  pointwise
  rfl

end Cert.KernelIdeal.Val

end
-- ==== Proof.GmPay.lean ====
/-
  The gradients of the two parameters, computed from the accumulators.
-/
module

public import proofs.«01_k».proof.Proof.SpecB
public import proofs.«01_k».proof.Proof.LoopsV1
public import Idealize.ShloMosaic.Lib.Tactic.Stretches

@[expose] public section

set_option maxRecDepth 16384

noncomputable section

namespace Cert.KernelIdeal.Val

open Cert.KernelIdeal Cert.KernelIdeal.Gen Cert.KernelIdeal.Hand
open scoped BigOperators
open Idealize.ShloMosaic Idealize.ShloMosaic.TcCoe Idealize.ShloMosaic.Tactic

/-- The gamma gradient: the rows of the first accumulator less three rows of the second. -/
theorem gamma_pay (db dg : FVec Ideal S8x1280 .f32) : k0_pay3 (F := Ideal) db dg = gammaV dg db := by
  funext y
  rw [eq_ix2 y]
  generalize y 0 = a
  generalize y 1 = h
  sl_open_pay
  pointwise [gammaV]

end Cert.KernelIdeal.Val

end
-- ==== Proof.ScStep.lean ====
module

public import proofs.«01_k».proof.Proof.Reads

/-!
One row store into the block of scales, the rows taken from the last to the first.
-/

@[expose] public section

noncomputable section

namespace Cert.KernelIdeal.Val

open Idealize.ShloMosaic Idealize.ShloMosaic.TcCoe

variable {sig : RefSig} {κ : Kind} {sp : Space} {e : EltTy} {Val : EltTy → Type}

/-- One store of row `(j, b)` of a block of ten by eight rows, when `y` is no later than that row, rows counted by `b` and then `j`: what is read at `y`
    afterwards is `T` if the stored value is, and, where `y` is earlier, `T` was read there before. -/
theorem stepRow {n : Fin 3 → ℕ} {v : View sig κ sp ⟨3, n⟩ e} {f : v.ty.Contents Val} {off size : Fin 3 → ℕ} (j b : ℕ)
    {inb : ∀ a, off a + size a ≤ n a} {w : (Rect.unit (s := ⟨3, n⟩) off size inb).shape.Idx → Val e} {L : List (View.Piece Val ⟨3, n⟩ e)}
    {y : (⟨3, n⟩ : Shape).Idx} {T : Val e} {k : ℕ} (heq : off = ![j, b, 0]) (h0 : size 0 = 1) (h1 : size 1 = 1) (h2 : size 2 = 128)
    (hj : j < 10) (y0 : (y 0).val < 10) (y2 : (y 2).val < 128) (H : (y 1).val * 10 + (y 0).val < k) (hk : k = b * 10 + j + 1)
    (hin : ∀ x : (Rect.unit (s := ⟨3, n⟩) off size inb).shape.Idx, (y 0).val = j + (x 0).val → (y 1).val = b + (x 1).val →
      (y 2).val = 0 + (x 2).val → w x = T)
    (hout : (y 1).val * 10 + (y 0).val < b * 10 + j → v.read Val (v.writes Val f L) y = T) :
    v.read Val (v.writes Val f ((⟨Rect.unit off size inb, w⟩ : View.Piece Val ⟨3, n⟩ e) :: L)) y = T :=
  step3 j b 0 1 1 128 heq h0 h1 h2 hin fun hn => hout (by omega)

end Cert.KernelIdeal.Val

end
-- ==== Proof.BodyV.lean ====
module

public import proofs.«01_k».proof.Proof.LoopsV1
public import proofs.«01_k».proof.Proof.LoopsV2
public import proofs.«01_k».proof.Proof.SpecB
public import proofs.«01_k».proof.Proof.DbPay
public import proofs.«01_k».proof.Proof.FullV
public import proofs.«01_k».proof.Proof.CdPay
public import proofs.«01_k».proof.Proof.ScPay
public import proofs.«01_k».proof.Proof.GmPay
public import proofs.«01_k».proof.Proof.ScStep
public import Idealize.ShloMosaic.Lib.Tactic.Stretches
public import Idealize.ShloMosaic.Lib.Pipeline.ValueKit
public import Idealize.ShloMosaic.Lib.Claim

/-!
The kernel's body, run once: from blocks and accumulators holding given numbers it leaves the codes, the scales and the parameter gradients written in
`SpecB` over those numbers.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Body

variable (c : Dev nD) (i : grid0.Coords)
  (arg1 : Memref sig .tc .smem S3 .f32) (harg1 : arg1.IsWhole)
  (arg2 : Memref sig .tc .vmem S8x128x1280 .bf16) (harg2 : arg2.IsWhole)
  (arg3 : Memref sig .tc .vmem S8x128x1280 .bf16) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1x1280 .f32) (harg6 : arg6.IsWhole)
  (arg7 : Memref sig .tc .vmem S3x8x128 .f32) (harg7 : arg7.IsWhole)
  (arg8 : Memref sig .tc .vmem S3x8x128 .f32) (harg8 : arg8.IsWhole)
  (arg9 : Memref sig .tc .vmem S8x128x1280 .fp8e5m2) (harg9 : arg9.IsWhole)
  (arg10 : Memref sig .tc .vmem S10x8x128 .f32) (harg10 : arg10.IsWhole)
  (arg11 : Memref sig .tc .vmem S1x1280 .f32) (harg11 : arg11.IsWhole)
  (arg12 : Memref sig .tc .vmem S1x1280 .f32) (harg12 : arg12.IsWhole)
  (arg13 : Memref sig .tc .vmem S8x128x1280 .f32) (harg13 : arg13.IsWhole)
  (arg14 : Memref sig .tc .vmem S8x128x1280 .f32) (harg14 : arg14.IsWhole)
  (arg15 : Memref sig .tc .vmem S8x128x128 .f32) (harg15 : arg15.IsWhole)
  (arg16 : Memref sig .tc .vmem S8x128x128 .f32) (harg16 : arg16.IsWhole)
  (arg17 : Memref sig .tc .vmem S8x128x128 .f32) (harg17 : arg17.IsWhole)
  (arg18 : Memref sig .tc .vmem S8x128x128 .f32) (harg18 : arg18.IsWhole)
  (arg19 : Memref sig .tc .vmem S8x128x128 .f32) (harg19 : arg19.IsWhole)
  (arg20 : Memref sig .tc .vmem S8x128x128 .f32) (harg20 : arg20.IsWhole)
  (arg21 : Memref sig .tc .vmem S8x1280 .f32) (harg21 : arg21.IsWhole)
  (arg22 : Memref sig .tc .vmem S8x1280 .f32) (harg22 : arg22.IsWhole)

set_option maxHeartbeats 8000000 in
/-- One run of the body: from the input blocks and any contents elsewhere it leaves the codes and the scales of the block's gradient in their
    blocks, adds the block's share to both accumulators and, at the last point, writes the two parameter gradients. -/
theorem body_val (x1 : FVec Ideal S3 .f32) (x2 : FVec Ideal S8x128x1280 .bf16) (x3 : FVec Ideal S8x128x1280 .bf16) (x4 : FVec Ideal S8x128 .f32) (x5 : FVec Ideal S8x128 .f32) (x6 : FVec Ideal S1x1280 .f32) (x7 : FVec Ideal S3x8x128 .f32) (x8 : FVec Ideal S3x8x128 .f32) (x21 x22 : FVec Ideal S8x1280 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (codeV (gradV x1 x2 x3 x4 x5 x6 x7 x8)) ∗ owns (c : Thread nD τ) arg10 fullShare (scaleV (gradV x1 x2 x3 x4 x5 x6 x7 x8)) ∗ (∃ d, ⌜cond0_1 i → d = gammaV (dgN i x2 x3 x5 x21) (dbN i x3 x4 x5 x22)⌝ ∗ owns (c : Thread nD τ) arg11 fullShare d) ∗ (∃ d, ⌜cond0_1 i → d = betaV (dbN i x3 x4 x5 x22)⌝ ∗ owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (dgN i x2 x3 x5 x21) ∗ owns (c : Thread nD τ) arg22 fullShare (dbN i x3 x4 x5 x22)) -∗ K ⟨⟩))
      ⊢ wp frame (wpE (defs₀ (F := Ideal)) Variants.none c none) Set.univ (cc0_ln_bwd_e5m2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    simp only [cc0_ln_bwd_e5m2_eq_skeleton]; unfold cc0_ln_bwd_e5m2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg21.eq_unread hf21; obtain rfl := harg22.eq_unread hf22
    sl_exec
    ihave ⟨%f15', %h15', H15⟩ : iprop(∃ f, ⌜∀ y, arg15.view.read (Elt Ideal) f y = along x5 y⌝ ∗ (arg15.view.loc (c : Thread nD τ) ↦[arg15.view.set]{fullShare} f)) $$ [H15]
    · iexists _; isplitr; swap; · iexact H15
      ipureintro
      intro y
      have y0 : (y 0).val < 8 := (y 0).isLt
      have y1 : (y 1).val < 128 := (y 1).isLt
      have y2 : (y 2).val < 128 := (y 2).isLt
      iterate 8
        refine step3 _ _ _ 1 128 128 rfl rfl rfl rfl (fun x e0 e1 e2 => ?_) fun hn => ?_
        · have x0 : (x 0).val < 1 := (x 0).isLt
          sl_open_run
          sl_open_pay
          rw [eq_ix3 x]
          pointwise
          simp only [View.readAt_eq_ld, Memref.IsWhole.read_unread]
          pointwise [along]
          exact congrArg x5 (ix2_eq (by simp <;> omega) (by simp <;> omega))
      exfalso
      omega
    obtain rfl := harg15.eq_unread (funext h15')
    ihave ⟨%f21', %h21', H21⟩ : iprop(∃ f, ⌜∀ y, arg21.view.read (Elt Ideal) f y = (ite0 i x21) y⌝ ∗ (arg21.view.loc (c : Thread nD τ) ↦[arg21.view.set]{fullShare} f)) $$ [H21]
    · iexists _; isplitr; swap; · iexact H21
      ipureintro
      intro y
      unfold ite0
      by_cases h : cond0_0 i
      · rw [if_pos h]
        refine (congrFun (congrArg _ (dif_pos h)) y).trans ?_
        refine step2 _ _ 8 1280 rfl rfl rfl (fun x e0 e1 => ?_) fun hn => ?_
        · sl_open_pay
          pointwise
        have y0 : (y 0).val < 8 := (y 0).isLt
        have y1 : (y 1).val < 1280 := (y 1).isLt
        exfalso
        omega
      rw [if_neg h]
      refine (congrFun (congrArg _ (dif_neg h)) y).trans ?_
      rw [Memref.IsWhole.read_unread]
    obtain rfl := harg21.eq_unread (funext h21')
    ihave ⟨%f22', %h22', H22⟩ : iprop(∃ f, ⌜∀ y, arg22.view.read (Elt Ideal) f y = (ite0 i x22) y⌝ ∗ (arg22.view.loc (c : Thread nD τ) ↦[arg22.view.set]{fullShare} f)) $$ [H22]
    · iexists _; isplitr; swap; · iexact H22
      ipureintro
      intro y
      unfold ite0
      by_cases h : cond0_0 i
      · rw [if_pos h]
        refine (congrFun (congrArg _ (dif_pos h)) y).trans ?_
        refine step2 _ _ 8 1280 rfl rfl rfl (fun x e0 e1 => ?_) fun hn => ?_
        · sl_open_pay
          pointwise
        have y0 : (y 0).val < 8 := (y 0).isLt
        have y1 : (y 1).val < 1280 := (y 1).isLt
        exfalso
        omega
      rw [if_neg h]
      refine (congrFun (congrArg _ (dif_neg h)) y).trans ?_
      rw [Memref.IsWhole.read_unread]
    obtain rfl := harg22.eq_unread (funext h22')
    sl_for (inv1 c arg2 harg2 arg3 harg3 arg6 harg6 arg13 harg13 arg14 harg14 arg15 harg15 arg16 harg16 arg17 harg17 arg21 harg21 x2 x3 x5 x6 (ite0 i x21)) $$ [H2 H3 H6 H15 H13 H14 H16 H17 H21]
    case region => intro k a; exact (loopV1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x5 x6 (ite0 i x21) _ _ _).step k a
    · unfold inv1
      isplitl [H2]; · iexact H2
      isplitl [H3]; · iexact H3
      isplitl [H6]; · iexact H6
      isplitl [H15]; · iexact H15
      isplitl [H13]
      · iexists _; isplitr; swap; · iexact H13
        ipureintro
        intro y hy
        exact absurd hy (Nat.not_lt_zero _)
      isplitl [H14]
      · iexists _; isplitr; swap; · iexact H14
        ipureintro
        intro y hy
        exact absurd hy (Nat.not_lt_zero _)
      isplitl [H16]
      · iexists _; isplitr; swap; · iexact H16
        ipureintro
        intro y hy
        exact absurd hy (Nat.not_lt_zero _)
      isplitl [H17]
      · iexists _; isplitr; swap; · iexact H17
        ipureintro
        intro y hy
        exact absurd hy (Nat.not_lt_zero _)
      iexists _; isplitr; swap; · iexact H21
      ipureintro
      intro y
      rw [h21' y]
      simp [dgTrips]
    iintro %a HI
    unfold inv1
    icases HI with ⟨H2, H3, H6, H15, ⟨%g13, %h13, H13⟩, ⟨%g14, %h14, H14⟩, ⟨%g16, %h16, H16⟩, ⟨%g17, %h17, H17⟩, ⟨%g21, %h21, H21⟩⟩
    have all1 : ∀ y : S8x128x1280.Idx, done1 16 y := fun y => by
      have y0 : (y 0).val < 8 := (y 0).isLt
      have y1 : (y 1).val < 128 := (y 1).isLt
      simp only [done1]; omega
    have all1l : ∀ y : S8x128x128.Idx, done1l 16 y := fun y => by
      have y0 : (y 0).val < 8 := (y 0).isLt
      have y1 : (y 1).val < 128 := (y 1).isLt
      simp only [done1l]; omega
    obtain rfl := harg13.eq_unread (funext fun y => h13 y (all1 y))
    obtain rfl := harg14.eq_unread (f := g14) (X := x2) (funext fun y => h14 y (all1 y))
    obtain rfl := harg16.eq_unread (funext fun y => h16 y (all1l y))
    obtain rfl := harg17.eq_unread (funext fun y => h17 y (all1l y))
    obtain rfl := harg21.eq_unread (f := g21) (X := dgN i x2 x3 x5 x21) (funext fun y => h21 y)
    sl_exec
    ihave ⟨%f18', %h18', H18⟩ : iprop(∃ f, ⌜∀ y, arg18.view.read (Elt Ideal) f y = along (cV x1 x2 x3 x4 x5 x6 x8) y⌝ ∗ (arg18.view.loc (c : Thread nD τ) ↦[arg18.view.set]{fullShare} f)) $$ [H18]
    · iexists _; isplitr; swap; · iexact H18
      ipureintro
      intro y
      have y0 : (y 0).val < 8 := (y 0).isLt
      have y1 : (y 1).val < 128 := (y 1).isLt
      have y2 : (y 2).val < 128 := (y 2).isLt
      iterate 8
        refine step3 _ _ _ 1 128 128 rfl rfl rfl rfl (fun x e0 e1 e2 => ?_) fun hn => ?_
        · have x0 : (x 0).val < 1 := (x 0).isLt
          sl_open_run
          simp only [k0_pay213, k0_pay215, k0_pay217, View.readAt_eq_ld, Memref.IsWhole.read_unread, ld_stat, ld_plane, ld_slab, ld_one, rows200, rows207, c_eq]
          sl_open_pay
          rw [eq_ix3 x]
          pointwise [along]
          have q : ∀ b : Fin 8, (y 0).val = b.val → cV x1 x2 x3 x4 x5 x6 x8 (ix2 b (x 1)) = cV x1 x2 x3 x4 x5 x6 x8 (ix2 (y 0) (y 1)) := fun b hb => congrArg₂ (fun u v => cV x1 x2 x3 x4 x5 x6 x8 (ix2 u v)) (Fin.ext hb.symm) (Fin.ext (by omega))
          first
            | (have k : (y 0).val = 0 := by omega); exact q 0 k
            | (have k : (y 0).val = 1 := by omega); exact q 1 k
            | (have k : (y 0).val = 2 := by omega); exact q 2 k
            | (have k : (y 0).val = 3 := by omega); exact q 3 k
            | (have k : (y 0).val = 4 := by omega); exact q 4 k
            | (have k : (y 0).val = 5 := by omega); exact q 5 k
            | (have k : (y 0).val = 6 := by omega); exact q 6 k
            | (have k : (y 0).val = 7 := by omega); exact q 7 k
      exfalso
      omega
    obtain rfl := harg18.eq_unread (funext h18')
    ihave ⟨%f19', %h19', H19⟩ : iprop(∃ f, ⌜∀ y, arg19.view.read (Elt Ideal) f y = along (dV x1 x2 x3 x4 x5 x6 x7 x8) y⌝ ∗ (arg19.view.loc (c : Thread nD τ) ↦[arg19.view.set]{fullShare} f)) $$ [H19]
    · iexists _; isplitr; swap; · iexact H19
      ipureintro
      intro y
      have y0 : (y 0).val < 8 := (y 0).isLt
      have y1 : (y 1).val < 128 := (y 1).isLt
      have y2 : (y 2).val < 128 := (y 2).isLt
      iterate 8
        refine step3 _ _ _ 1 128 128 rfl rfl rfl rfl (fun x e0 e1 e2 => ?_) fun hn => ?_
        · have x0 : (x 0).val < 1 := (x 0).isLt
          sl_open_run
          simp only [k0_pay214, k0_pay216, View.readAt_eq_ld, Memref.IsWhole.read_unread, ld_stat, ld_plane, ld_slab, ld_one, rows200, rows207, d_eq]
          sl_open_pay
          rw [eq_ix3 x]
          pointwise [along]
          have q : ∀ b : Fin 8, (y 0).val = b.val → dV x1 x2 x3 x4 x5 x6 x7 x8 (ix2 b (x 1)) = dV x1 x2 x3 x4 x5 x6 x7 x8 (ix2 (y 0) (y 1)) := fun b hb => congrArg₂ (fun u v => dV x1 x2 x3 x4 x5 x6 x7 x8 (ix2 u v)) (Fin.ext hb.symm) (Fin.ext (by omega))
          first
            | (have k : (y 0).val = 0 := by omega); exact q 0 k
            | (have k : (y 0).val = 1 := by omega); exact q 1 k
            | (have k : (y 0).val = 2 := by omega); exact q 2 k
            | (have k : (y 0).val = 3 := by omega); exact q 3 k
            | (have k : (y 0).val = 4 := by omega); exact q 4 k
            | (have k : (y 0).val = 5 := by omega); exact q 5 k
            | (have k : (y 0).val = 6 := by omega); exact q 6 k
            | (have k : (y 0).val = 7 := by omega); exact q 7 k
      exfalso
      omega
    obtain rfl := harg19.eq_unread (funext h19')
    ihave ⟨%f22b, %h22b, H22⟩ : iprop(∃ f, ⌜∀ y, arg22.view.read (Elt Ideal) f y = (dbN i x3 x4 x5 x22) y⌝ ∗ (arg22.view.loc (c : Thread nD τ) ↦[arg22.view.set]{fullShare} f)) $$ [H22]
    · iexists _; isplitr; swap; · iexact H22
      ipureintro
      intro y
      sl_open_run
      refine (congrFun (View.read_writes_full _ _ _ _ _) y).trans ?_
      simp only [readCov_acc, View.readAt_eq_ld, Memref.IsWhole.read_unread, ld_acc, ld_stat, db0, db1, db2, db3, db4, db5, db6, db7]
      unfold dbN dbRow
      rw [Fin.sum_univ_eight]
      simp only [← add_assoc]
      repeat' first
        | rfl
        | refine Ideal.add_congr ?_ ?_
        | refine Finset.sum_congr rfl fun t _ => ?_
        | refine Ideal.mul_congr rfl ?_
        | exact congrArg x3 (ix3_eq (by simp <;> omega) (by simp <;> omega) (by simp <;> omega)).symm
        | exact congrArg x3 (ix3_eq (by simp <;> omega) (by simp <;> omega) (by simp <;> omega))
    obtain rfl := harg22.eq_unread (funext h22b)
    sl_for (inv2 c arg9 harg9 arg13 harg13 arg14 harg14 arg18 harg18 arg19 harg19 arg20 harg20 (grV x3 x5 x6) x2 (cV x1 x2 x3 x4 x5 x6 x8) (dV x1 x2 x3 x4 x5 x6 x7 x8)) $$ [H13 H14 H18 H19 H9 H20]
    case region => intro k a; exact (loopV2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (grV x3 x5 x6) x2 (cV x1 x2 x3 x4 x5 x6 x8) (dV x1 x2 x3 x4 x5 x6 x7 x8) _).step k a
    · unfold inv2
      isplitl [H13]; · iexact H13
      isplitl [H14]; · iexact H14
      isplitl [H18]; · iexact H18
      isplitl [H19]; · iexact H19
      isplitl [H9]
      · iexists _; isplitr; swap; · iexact H9
        ipureintro
        intro y hy
        exact absurd hy (Nat.not_lt_zero _)
      iexists _; isplitr; swap; · iexact H20
      ipureintro
      intro y hy
      exact absurd hy.1 (Nat.not_lt_zero _)
    iintro %a2 HI
    unfold inv2
    icases HI with ⟨H13, H14, H18, H19, ⟨%g9, %h9, H9⟩, ⟨%g20, %h20, H20⟩⟩
    have all2 : ∀ y : S8x128x1280.Idx, done2 32 y := fun y => by
      have y0 : (y 0).val < 8 := (y 0).isLt
      have y1 : (y 1).val < 128 := (y 1).isLt
      simp only [done2]; omega
    obtain rfl := harg9.eq_unread (f := g9) (X := codeV (gradV x1 x2 x3 x4 x5 x6 x7 x8)) (funext fun y => h9 y (all2 y))
    sl_exec
    skip
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro
      funext y
      have y0 : (y 0).val < 10 := (y 0).isLt
      have y1 : (y 1).val < 8 := (y 1).isLt
      have y2 : (y 2).val < 128 := (y 2).isLt
      have sc20 : ∀ z : S8x128x128.Idx, (z 0).val = (y 1).val → (z 1).val = (y 2).val → (z 2).val = (y 0).val →
          (arg20.view.read (Elt Ideal) g20 z : EReal) = absmax (blockOf (gradV x1 x2 x3 x4 x5 x6 x7 x8) (y 1) (y 2) (y 0)) := by
        intro z e0 e1 e2
        rw [show z = ix3 (y 1) (y 2) ⟨(y 0).val, by omega⟩ from (ix3_eq e0.symm e1.symm e2.symm).symm]
        refine (h20 _ ?_).trans ?_
        · simp only [done2l]
          refine ⟨?_, by simpa using y0⟩
          rw [show (Scf.trips (0#32) (Scalar.addi 0#32 32#32) 1#32) = 32 from by decide]
          show (y 1).val * 4 + (y 2).val / 32 < 32; omega
        · unfold amV
          exact dif_pos (by simpa using y0)
      have H : (y 1).val * 10 + (y 0).val < 7 * 10 + 9 + 1 := by omega
      have s3 : ∀ (w : FVec Ideal S1x128x128 .f32) (I : IVec S256x16x128 32) (n : BitVec 32), I = iota .tc S256x16x128 32 [0] iota_S256x16x128_d0_w32 → n = 23#32 →
          ∀ z, (k0_pay267 (F := Ideal) (k0_pay266 (F := Ideal) w) I n z : EReal) = scales16 w z := by
        rintro w _ _ rfl rfl z
        exact congrFun (sc267 w) z
      iterate 80
        refine stepRow _ _ rfl rfl rfl rfl (by decide) y0 y2 H rfl (fun x e0 e1 e2 => ?_) fun _ => ?_
        · have l0 : (x 0).val < 1 := (x 0).isLt
          have l1 : (x 1).val < 1 := (x 1).isLt
          have l2 : (x 2).val < 128 := (x 2).isLt
          sl_open_run
          simp only [k0_pay1, k0_pay233, k0_pay234, k0_pay235, k0_pay236, k0_pay237, k0_pay238, k0_pay239, k0_pay240, k0_pay241, k0_pay242, k0_pay243, k0_pay245, k0_pay246, k0_pay247, k0_pay248, k0_pay249, k0_pay250, k0_pay251, k0_pay252, k0_pay253, k0_pay254, k0_pay256, k0_pay257, k0_pay258, k0_pay259, k0_pay260, k0_pay261, k0_pay262, k0_pay263, k0_pay264, k0_pay265, k0_pay268, k0_pay269, k0_pay270, k0_pay271, k0_pay272, k0_pay273, k0_pay274, k0_pay275, k0_pay276, k0_pay277, k0_pay282, k0_pay283, k0_pay284, k0_pay285, k0_pay286, k0_pay287, k0_pay288, k0_pay289, k0_pay290, k0_pay291, k0_pay296, k0_pay297, k0_pay298, k0_pay299, k0_pay300, k0_pay301, k0_pay302, k0_pay303, k0_pay304, k0_pay305, k0_pay307, k0_pay308, k0_pay309, k0_pay310, k0_pay311, k0_pay312, k0_pay313, k0_pay314, k0_pay315, k0_pay316, k0_pay317, k0_pay319, k0_pay320, k0_pay321, k0_pay322, k0_pay323, k0_pay324, k0_pay325, k0_pay326, k0_pay327, k0_pay328, sc232, sc244, sc255, sc267, sc281, sc295, sc306, sc318]
          rw [eq_ix3 x]
          pointwise [scales16]
          simp only [View.readAt_eq_ld]
          first
            | with_reducible refine (s3 _ _ _ ?_ ?_ _).trans ?_
              · rfl
              · rfl
              pointwise [scales16]
            | skip
          refine scaleOf_congr ?_
          exact sc20 _ (by simp <;> omega) (by simp <;> omega) (by simp <;> omega)
        clear H
        rename_i H
      exfalso
      omega
    isplitl [H11]
    · iexists _; isplitr; swap
      · iexists _; isplitr; swap; · iexact H11
        ipureintro; rfl
      ipureintro
      intro hc1
      refine (congrArg _ (dif_pos hc1)).trans ?_
      funext y
      have y0 : (y 0).val < 1 := (y 0).isLt
      have y1 : (y 1).val < 1280 := (y 1).isLt
      refine step2 _ _ 1 1280 rfl rfl rfl (fun x e0 e1 => ?_) fun hn => ?_
      · have x0 : (x 0).val < 1 := (x 0).isLt
        have x1 : (x 1).val < 1280 := (x 1).isLt
        sl_open_run
        simp only [View.readAt_eq_ld, Memref.IsWhole.read_unread, ld_acc, gamma_pay]
        rw [eq_ix2 x]
        exact congrArg _ (ix2_eq (by simp <;> omega) (by simp <;> omega))
      exfalso
      omega
    isplitl [H12]
    · iexists _; isplitr; swap
      · iexists _; isplitr; swap; · iexact H12
        ipureintro; rfl
      ipureintro
      intro hc1
      refine (congrArg _ (dif_pos hc1)).trans ?_
      funext y
      have y0 : (y 0).val < 1 := (y 0).isLt
      have y1 : (y 1).val < 1280 := (y 1).isLt
      refine step2 _ _ 1 1280 rfl rfl rfl (fun x e0 e1 => ?_) fun hn => ?_
      · have x0 : (x 0).val < 1 := (x 0).isLt
        have x1 : (x 1).val < 1280 := (x 1).isLt
        sl_open_run
        simp only [View.readAt_eq_ld, Memref.IsWhole.read_unread, ld_acc]
        sl_open_pay
        rw [eq_ix2 x]
        pointwise [betaV]
        repeat' first
          | rfl
          | exact congrArg _ (ix2_eq (by simp <;> omega) (by simp <;> omega))
          | refine sub_congr' ?_ ?_
          | refine congrArg Neg.neg ?_
          | refine Ideal.add_congr ?_ ?_
          | refine Finset.sum_congr rfl fun l _ => ?_
      exfalso
      omega
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _; isplitr; · ipureintro; exact harg21.read_unread _
      iexact H21
    iexists _; isplitr; · ipureintro; exact harg22.read_unread _
    iexact H22

end Body

end Cert.KernelIdeal.Val

end
-- ==== Proof.RunV.lean ====
/-
  Every run of the idealized kernel: what its result arrays hold at the end, block by block, and the two accumulators along the way.
-/
module

public import proofs.«01_k».proof.Proof.BodyV
public import proofs.«01_k».proof.Proof.KitI
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- The gradient of the block of point `t`. -/
def gradAt (c : Dev nD) (t : Fin cfg0.N) : FVec Ideal S8x128x1280 .f32 := gradV (iblk m c 0 t) (iblk m c 1 t) (iblk m c 2 t) (iblk m c 3 t) (iblk m c 4 t) (iblk m c 5 t) (iblk m c 6 t) (iblk m c 7 t)

/-- What point `t` adds to the first accumulator. -/
def dgStep (c : Dev nD) (t : Fin cfg0.N) : FVec Ideal S8x1280 .f32 := dgTrips (iblk m c 1 t) (iblk m c 2 t) (iblk m c 4 t) 16

/-- What point `t` adds to the second accumulator. -/
def dbStep (c : Dev nD) (t : Fin cfg0.N) : FVec Ideal S8x1280 .f32 :=
  fun y => ∑ b : Fin 8, dbRow (iblk m c 2 t) (iblk m c 3 t) (iblk m c 4 t) b y

/-- The sum of the first `n` points' shares. -/
def upTo (f : Fin cfg0.N → FVec Ideal S8x1280 .f32) (n : ℕ) : FVec Ideal S8x1280 .f32 :=
  fun y => ∑ k ∈ Finset.range n, if h : k < cfg0.N then f ⟨k, h⟩ y else 0

theorem upTo_succ (f : Fin cfg0.N → FVec Ideal S8x1280 .f32) (t : Fin cfg0.N) (y : S8x1280.Idx) :
    (upTo f (t.val + 1) y : EReal) = upTo f t.val y + f t y := by
  unfold upTo
  rw [Finset.sum_range_succ, dif_pos t.isLt]

/-- An accumulator that holds the first `t` points' shares, or anything at the first point, counts as holding them once it has been cleared there. -/
theorem ite0_eq (f : Fin cfg0.N → FVec Ideal S8x1280 .f32) (t : Fin cfg0.N) {X : FVec Ideal S8x1280 .f32} (h : t.val = 0 ∨ X = upTo f t.val) (y : S8x1280.Idx) :
    (ite0 (grid0.coords t) X y : EReal) = upTo f t.val y := by
  unfold ite0
  have ht : t.val < 96 := Nat.lt_of_lt_of_eq t.isLt N_0
  by_cases hc : cond0_0 (grid0.coords t)
  · rw [if_pos hc]
    have h0 : t.val = 0 := by have := (hcond0_0 t).1 hc; omega
    rw [h0]
    rfl
  · rw [if_neg hc]
    rcases h with h | h
    · exact absurd ((hcond0_0 t).2 (by omega)) hc
    · rw [h]

theorem dgN_eq (c : Dev nD) (t : Fin cfg0.N) {X : FVec Ideal S8x1280 .f32} (h : t.val = 0 ∨ X = upTo (dgStep m c) t.val) :
    dgN (grid0.coords t) (iblk m c 1 t) (iblk m c 2 t) (iblk m c 4 t) X = upTo (dgStep m c) (t.val + 1) :=
  funext fun y => by
    rw [upTo_succ]
    exact congrArg (· + _) (ite0_eq (dgStep m c) t h y)

theorem dbN_eq (c : Dev nD) (t : Fin cfg0.N) {X : FVec Ideal S8x1280 .f32} (h : t.val = 0 ∨ X = upTo (dbStep m c) t.val) :
    dbN (grid0.coords t) (iblk m c 2 t) (iblk m c 3 t) (iblk m c 4 t) X = upTo (dbStep m c) (t.val + 1) :=
  funext fun y => by
    rw [upTo_succ]
    exact congrArg (· + _) (ite0_eq (dbStep m c) t h y)

/-- The four results are the windows held to what the body computes. -/
def isResult : Fin 12 → Bool := fun w => w.val == 8 || w.val == 9 || w.val == 10 || w.val == 11

/-- What the body leaves in the result windows: codes and scales at every point, the parameter gradients at the last. -/
def Rl (c : Dev nD) : (w : Fin cfg0.W) → Fin cfg0.N → ((cfg0.win w).block.Idx → Elt Ideal (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun X => X = codeV (gradAt m c t)
  | ⟨9, _⟩ => fun X => X = scaleV (gradAt m c t)
  | ⟨10, _⟩ => fun X => t.val = 95 → X = gammaV (upTo (dgStep m c) 96) (upTo (dbStep m c) 96)
  | ⟨11, _⟩ => fun X => t.val = 95 → X = betaV (upTo (dbStep m c) 96)

/-- The invariant between points: the scratch at anything, but the accumulators at the sums so far from the second point on. -/
def PhiV (c : Dev nD) (n : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, ⌜n = 0 ∨ d = upTo (dgStep m c) n⌝ ∗ owns (c : Thread nD τ) scM0_8 fullShare d) ∗ (∃ d, ⌜n = 0 ∨ d = upTo (dbStep m c) n⌝ ∗ owns (c : Thread nD τ) scM0_9 fullShare d)) ∗ (∃ r, prngReg c r))

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiV m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel isResult (Rl m c)).Finds 8 t Y⌝ ∗ owns (c : Thread nD τ) (ms0_8 t) fullShare Y)
    ∗ (∃ Y, ⌜((dats m 0 c).toRRel isResult (Rl m c)).Finds 9 t Y⌝ ∗ owns (c : Thread nD τ) (ms0_9 t) fullShare Y)
    ∗ (∃ Y, ⌜((dats m 0 c).toRRel isResult (Rl m c)).Finds 10 t Y⌝ ∗ owns (c : Thread nD τ) (ms0_10 t) fullShare Y)
    ∗ (∃ Y, ⌜((dats m 0 c).toRRel isResult (Rl m c)).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  have ht : t.val < 96 := Nat.lt_of_lt_of_eq t.isLt N_0
  unfold bodyPre bodyPost bodyAt0
  simp only [before0_0, before0_1, before0_2, before0_3, before0_4, before0_5, before0_6, before0_7, after0_0, after0_1, after0_2, after0_3, after0_4, after0_5, after0_6, after0_7]
  rw [show (dats m 0 c).owesAt () t.succ = (dats m 0 c).owesAt () t.castSucc from rfl]
  rw [show (dats m 0 c).Φ t.succ = PhiV m c (t.val + 1) from rfl, show (dats m 0 c).Φ t.castSucc = PhiV m c t.val from rfl]
  unfold PhiV
  iintro ⟨⟨⟨HS0, HS1, HS2, HS3, HS4, HS5, HS6, HS7, ⟨%x21, %h21, HS8⟩, ⟨%x22, %h22, HS9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩, ⟨%d10, -, H10⟩, ⟨%d11, -, H11⟩⟩
  have e21 := dgN_eq m c t h21
  have e22 := dbN_eq m c t h22
  iapply (body_val c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) x21 x22 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  rw [e21, e22]
  iintro ⟨H0, H1, H2, H3, H4, H5, H6, H7, H8, H9, ⟨%d10', %h10, H10⟩, ⟨%d11', %h11, H11⟩, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]
      · iexists _; isplitr; swap; · iexact HS8
        ipureintro; exact Or.inr rfl
      iexists _; isplitr; swap; · iexact HS9
      ipureintro; exact Or.inr rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro
    intro h
    have := h10 ((hcond0_1 t).2 (by omega))
    rw [h] at this
    exact this
  iexists _; isplitr; swap; · iexact H11
  ipureintro
  intro h
  have := h11 ((hcond0_1 t).2 (by omega))
  rw [h] at this
  exact this

theorem defs₀_row (t : Fin cfg0.N) :
    defs₀ (F := Ideal) .tc cfg0.body (cfg0.bodyArgs t (cfg0.slots t)) = bodyAt0 t := by
  unfold defs₀; rw [Defs.onTc_tc]

/-- The pipeline's obligation on the body, at every point. -/
theorem body_obligation (c : Dev nD) : BodyObligationRel (dats m 0 c) (defs₀ (F := Ideal)) Variants.none () Set.univ isResult (Rl m c) := fun t => by
  rw [bigSep_W0, bigSep_W0, defs₀_row]
  exact triple_restated (sound_body m c t) rfl .rfl fun _ => .rfl

theorem hin (c : Dev nD) : Pipeline.ΦA spec0 c ⊢ PhiV m c 0 := by
  rw [PhiA0_eq]
  unfold PhiV
  iintro ⟨⟨HS0, HS1, HS2, HS3, HS4, HS5, HS6, HS7, ⟨%d8, HS8⟩, ⟨%d9, HS9⟩⟩, Hg⟩
  isplitr [Hg]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]
    · iexists _; isplitr; swap; · iexact HS8
      ipureintro; exact Or.inl rfl
    iexists _; isplitr; swap; · iexact HS9
    ipureintro; exact Or.inl rfl
  iexact Hg

theorem hout (c : Dev nD) (n : ℕ) : PhiV m c n ⊢ Pipeline.ΦA spec0 c := by
  rw [PhiA0_eq]
  unfold PhiV
  iintro ⟨⟨HS0, HS1, HS2, HS3, HS4, HS5, HS6, HS7, ⟨%d8, -, HS8⟩, ⟨%d9, -, HS9⟩⟩, Hg⟩
  isplitr [Hg]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]
    · iexists _; iexact HS8
    iexists _; iexact HS9
  iexact Hg

set_option backward.isDefEq.respectTransparency.types false in
/-- Every run of the program ends, with its arrays as the proof data say. -/
theorem run_rel : θ_run defs (onTc (τ := τ) (main (F := Ideal))) (s₀ m ρ)
    (Pipeline.RDat.FramePost (cfgs 0) (fun c => (dats m 0 c).toRRel isResult (Rl m c)) (V m)) :=
  Pipeline.RDat.θ_run_frame_track (Q' := _) cfgs (0 : Fin 1) launch0 defs₀ Variants.none (fun c => (dats m 0 c).toRRel isResult (Rl m c)) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _)

end Cert.KernelIdeal.Val

end
-- ==== Proof.Tok.lean ====
/-
  The gradient of one token, as the kernel and as the reference arrange it, and their equality over finite numbers; the sums over all tokens
  regrouped into the kernel's blocks.
-/
module

public import proofs.«01_k».proof.Proof.Spec

@[expose] public section

noncomputable section

namespace Cert.KernelIdeal.Val

open Cert.KernelIdeal
open Idealize.ShloMosaic

/-- A number that is neither infinity. -/
def IsFin (x : EReal) : Prop := ∃ r : ℝ, x = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers. -/
theorem div_real {y : ℝ} (h : y ≠ 0) (x : ℝ) : Ideal.div (x : EReal) (y : EReal) = ((x / y : ℝ) : EReal) := by
  rw [Ideal.div_coe h, ← EReal.coe_mul, mul_one_div]

/-- A sum over `a * b` numbers in `a` runs of `b`. -/
theorem sum_split {M : Type*} [AddCommMonoid M] (a b : ℕ) (f : Fin (a * b) → M) :
    ∑ x, f x = ∑ i : Fin a, ∑ j : Fin b, f ⟨i.val * b + j.val, by
      have := i.isLt; have := j.isLt
      calc i.val * b + j.val < i.val * b + b := by omega
        _ = (i.val + 1) * b := by ring
        _ ≤ a * b := Nat.mul_le_mul_right _ (by omega)⟩ := by
  rw [← (finProdFinEquiv (m := a) (n := b)).sum_comp, Fintype.sum_prod_type]
  refine Finset.sum_congr rfl fun i _ => Finset.sum_congr rfl fun j _ => congrArg f (Fin.ext ?_)
  show j.val + b * i.val = i.val * b + j.val
  ring

/-- A row's 1280 columns summed lane by lane. -/
theorem sum_col {M : Type*} [AddCommMonoid M] (f : Fin 1280 → M) : ∑ l : Fin 128, ∑ q : Fin 10, f (col q l) = ∑ h, f h := by
  rw [Finset.sum_comm]
  exact (sum_split 10 128 f).symm

/-- The kernel's `Σ gr` of a token. -/
def kS1 (dy g : Fin 1280 → EReal) (r : EReal) : EReal := ∑ l : Fin 128, ∑ q : Fin 10, (dy (col q l) * r) * g (col q l)

/-- The kernel's `Σ gx` of a token. -/
def kSx (x dy g : Fin 1280 → EReal) (r : EReal) : EReal := ∑ l : Fin 128, ∑ q : Fin 10, ((dy (col q l) * r) * x (col q l)) * g (col q l)

/-- The kernel's factor of `x`. -/
def kC (x dy g : Fin 1280 → EReal) (mean r px n : EReal) : EReal :=
  (r * r) * Ideal.div (px + (kSx x dy g r - mean * kS1 dy g r)) n

/-- The kernel's gradient of a token. -/
def kDx (x dy g : Fin 1280 → EReal) (mean r pg px n : EReal) (h : Fin 1280) : EReal :=
  ((dy h * r) * g h - (Ideal.div (pg * r + kS1 dy g r) n - mean * kC x dy g mean r px n)) - x h * kC x dy g mean r px n

/-- The reference's gradient of a token. -/
def rDx (x dy g : Fin 1280 → EReal) (mean r pg px n : EReal) (h : Fin 1280) : EReal :=
  r * (((dy h * g h) - Ideal.div (pg + ∑ k, dy k * g k) n)
    - ((x h - mean) * r) * Ideal.div (px + ∑ k, (dy k * g k) * ((x k - mean) * r)) n)

/-- Over finite numbers the two gradients of a token are the same finite number. -/
theorem kDx_eq {x dy g : Fin 1280 → EReal} {mean r pg px n : EReal} (hx : ∀ h, IsFin (x h)) (hdy : ∀ h, IsFin (dy h)) (hg : ∀ h, IsFin (g h))
    (hm : IsFin mean) (hr : IsFin r) (hpg : IsFin pg) (hpx : IsFin px) (hn : IsFin n) (hn0 : n ≠ 0) (h : Fin 1280) :
    kDx x dy g mean r pg px n h = rDx x dy g mean r pg px n h ∧ IsFin (rDx x dy g mean r pg px n h) := by
  choose X hX using hx
  choose Y hY using hdy
  choose G hG using hg
  obtain ⟨M, rfl⟩ := hm
  obtain ⟨R, rfl⟩ := hr
  obtain ⟨A, rfl⟩ := hpg
  obtain ⟨B, rfl⟩ := hpx
  obtain ⟨N, rfl⟩ := hn
  have hN : N ≠ 0 := fun e => hn0 (by rw [e]; rfl)
  have e1 : kS1 dy g R = ((R * ∑ k, Y k * G k : ℝ) : EReal) := by
    unfold kS1
    rw [sum_col (fun k => (dy k * R) * g k), Finset.mul_sum, coe_sum]
    exact Finset.sum_congr rfl fun k _ => by
      rw [hY, hG, ← EReal.coe_mul, ← EReal.coe_mul]; exact congrArg _ (by ring)
  have ex : kSx x dy g R = ((∑ k, Y k * R * X k * G k : ℝ) : EReal) := by
    unfold kSx
    rw [sum_col (fun k => ((dy k * R) * x k) * g k), coe_sum]
    exact Finset.sum_congr rfl fun k _ => by
      rw [hY, hG, hX, ← EReal.coe_mul, ← EReal.coe_mul, ← EReal.coe_mul]
  have r1 : ∑ k, dy k * g k = ((∑ k, Y k * G k : ℝ) : EReal) := by
    rw [coe_sum]
    exact Finset.sum_congr rfl fun k _ => by rw [hY, hG, ← EReal.coe_mul]
  have rx : ∑ k, (dy k * g k) * ((x k - M) * R) = ((∑ k, Y k * G k * ((X k - M) * R) : ℝ) : EReal) := by
    rw [coe_sum]
    exact Finset.sum_congr rfl fun k _ => by
      rw [hY, hG, hX, ← EReal.coe_mul, ← EReal.coe_sub, ← EReal.coe_mul, ← EReal.coe_mul]
  have hs : ∑ k, Y k * R * X k * G k - M * (R * ∑ k, Y k * G k) = ∑ k, Y k * G k * ((X k - M) * R) := by
    rw [Finset.mul_sum, Finset.mul_sum, ← Finset.sum_sub_distrib]
    exact Finset.sum_congr rfl fun k _ => by ring
  unfold kDx rDx kC
  rw [e1, ex, r1, rx, hX, hY, hG]
  simp only [← EReal.coe_mul, ← EReal.coe_sub, ← EReal.coe_add, div_real hN, hs]
  exact ⟨congrArg _ (by ring), _, rfl⟩

/-- The eight running rows' share of the gamma gradient, less the three rows' of `mean · rstd` against the output gradient, is the gamma gradient. -/
theorem dgamma_eq {ι : Type*} (s : Finset ι) {x dy mean r : ι → EReal} (hx : ∀ i, IsFin (x i)) (hdy : ∀ i, IsFin (dy i)) (hm : ∀ i, IsFin (mean i))
    (hr : ∀ i, IsFin (r i)) :
    (∑ i ∈ s, (dy i * r i) * x i)
      - ((∑ i ∈ s, (mean i * r i) * dy i + ∑ i ∈ s, (mean i * r i - mean i * r i) * dy i)
        + ∑ i ∈ s, ((mean i * r i - mean i * r i) - (mean i * r i - mean i * r i)) * dy i)
      = ∑ i ∈ s, dy i * ((x i - mean i) * r i) := by
  choose X hX using hx
  choose Y hY using hdy
  choose M hM using hm
  choose R hR using hr
  simp only [hX, hY, hM, hR, ← EReal.coe_mul, ← EReal.coe_sub, ← coe_sum, ← EReal.coe_add]
  refine congrArg _ ?_
  simp only [sub_self, zero_mul, Finset.sum_const_zero, add_zero]
  rw [← Finset.sum_sub_distrib]
  exact Finset.sum_congr rfl fun i _ => by ring

end Cert.KernelIdeal.Val

end
-- ==== Proof.Quant.lean ====
/-
  The scale of a block, as the kernel finds it from the largest power of two that is not too large and as the reference finds it from a logarithm:
  their equality over finite numbers.
-/
module

public import proofs.«01_k».proof.Proof.Tok

@[expose] public section

noncomputable section

namespace Cert.KernelIdeal.Val

open Cert.KernelIdeal
open Idealize.ShloMosaic

/-- The reference's exponent of a block whose largest absolute value is `a`. -/
def rExp (a : EReal) : EReal :=
  if min (a * Ideal.ofBits FTy.f32 932333861#32) (Ideal.ofBits FTy.f32 2139095039#32) < Ideal.ofBits FTy.f32 8388608#32 then 0
  else Ideal.liftRound Int.floor (Ideal.div (Ideal.log (min (a * Ideal.ofBits FTy.f32 932333861#32) (Ideal.ofBits FTy.f32 2139095039#32)))
    (Ideal.log (Ideal.ofBits FTy.f32 1073741824#32))) + 1

theorem ofBits_two : Ideal.ofBits FTy.f32 1073741824#32 = ((2 : ℝ) : EReal) := by
  simp [Ideal.ofBits, Ideal.ieee]
  rw [← EReal.coe_mul]
  exact congrArg _ (by norm_num)

theorem ofBits_half : Ideal.ofBits FTy.f32 1056964608#32 = ((1 / 2 : ℝ) : EReal) := by
  simp [Ideal.ofBits, Ideal.ieee]
  rw [← EReal.coe_mul]
  exact congrArg _ (by norm_num)

theorem ofBits_tiny : Ideal.ofBits FTy.f32 8388608#32 = (((2 : ℝ) ^ (-126 : ℤ) : ℝ) : EReal) := by
  simp [Ideal.ofBits, Ideal.ieee]
  rw [← EReal.coe_mul]
  exact congrArg _ (by norm_num)

theorem ofBits_max : ∃ r : ℝ, Ideal.ofBits FTy.f32 2139095039#32 = (r : EReal) ∧ (2 : ℝ) ^ (127 : ℤ) ≤ r ∧ r < (2 : ℝ) ^ (128 : ℤ) := by
  refine ⟨16777215 * 2 ^ (104 : ℤ), ?_, by norm_num, by norm_num⟩
  simp [Ideal.ofBits, Ideal.ieee]

theorem ofBits_step : ∃ r : ℝ, Ideal.ofBits FTy.f32 932333861#32 = (r : EReal) ∧ 0 < r := by
  refine ⟨9586981 * 2 ^ (-39 : ℤ), ?_, by norm_num⟩
  simp [Ideal.ofBits, Ideal.ieee]

theorem ofBits_ninf : Ideal.ofBits FTy.f32 4286578688#32 = ⊥ := by
  simp [Ideal.ofBits, Ideal.ieee]

/-- The powers of two the kernel compares with: the word `k` at the exponent's place. -/
theorem ofBits_pow (k : Fin 256) : Ideal.ofBits FTy.f32 (IntOp.shli ArithUnit.vector (BitVec.ofNat 32 k.val) 23#32)
    = if k.val = 255 then ⊤ else if k.val = 0 then 0 else (((2 : ℝ) ^ ((k.val : ℤ) - 127) : ℝ) : EReal) := by
  have hb : ∀ k : Fin 256, (IntOp.shli ArithUnit.vector (BitVec.ofNat 32 k.val) 23#32).extractLsb' 31 1 = 0#1
      ∧ ((IntOp.shli ArithUnit.vector (BitVec.ofNat 32 k.val) 23#32).extractLsb' 23 8).toNat = k.val
      ∧ ((IntOp.shli ArithUnit.vector (BitVec.ofNat 32 k.val) 23#32).extractLsb' 0 23).toNat = 0 := by decide +kernel
  obtain ⟨h1, h2, h3⟩ := hb k
  show Ideal.ieee 8 23 _ = _
  unfold Ideal.ieee
  simp only [h1, h2, h3, show (8 + 23 : ℕ) = 31 from rfl]
  norm_num
  split_ifs with h h'
  · rfl
  · rfl
  · rw [← EReal.coe_mul]
    refine congrArg _ ?_
    rw [show (k.val : ℤ) - 127 - 23 = (k.val : ℤ) - 127 + (-23) by ring, zpow_add₀ (by norm_num)]
    norm_num
    ring

/-- The largest power of two at most a number that is too small for one is 0. -/
theorem part_small {v : ℝ} (h0 : 0 ≤ v) (hv : v < (2 : ℝ) ^ (-126 : ℤ)) : part (v : EReal) = 0 := by
  refine le_antisymm ?_ ?_
  · unfold part
    rw [Finset.fold_max_le]
    refine ⟨by rw [ofBits_ninf]; exact bot_le, fun k _ => ?_⟩
    split_ifs with d
    · rw [ofBits_pow] at d ⊢
      have hk := k.isLt
      split_ifs at d ⊢ with a b
      · exact absurd d (by simp)
      · exact le_refl _
      · exfalso
        have d := EReal.coe_le_coe_iff.1 d
        have : (2 : ℝ) ^ (-126 : ℤ) ≤ (2 : ℝ) ^ ((k.val : ℤ) - 127) := zpow_le_zpow_right₀ (by norm_num) (by omega)
        linarith
    · exact le_refl _
  · unfold part
    rw [Finset.le_fold_max]
    refine Or.inr ⟨0, Finset.mem_univ _, ?_⟩
    rw [ofBits_pow]
    simp

/-- The largest power of two at most `v`, from the power `2 ^ e` with `2 ^ e ≤ v` and `v < 2 ^ (e + 1)` unless `e` is the largest exponent. -/
theorem part_pow {v : ℝ} {e : ℤ} (h1 : -126 ≤ e) (h2 : e ≤ 127) (hv : (2 : ℝ) ^ e ≤ v) (hv' : e < 127 → v < (2 : ℝ) ^ (e + 1)) :
    part (v : EReal) = (((2 : ℝ) ^ e : ℝ) : EReal) := by
  have hp : (0 : ℝ) < 2 ^ e := by positivity
  refine le_antisymm ?_ ?_
  · unfold part
    rw [Finset.fold_max_le]
    refine ⟨by rw [ofBits_ninf]; exact bot_le, fun k _ => ?_⟩
    have h0 : (0 : EReal) ≤ (((2 : ℝ) ^ e : ℝ) : EReal) := by exact_mod_cast hp.le
    split_ifs with d
    · rw [ofBits_pow] at d ⊢
      have hk := k.isLt
      split_ifs at d ⊢ with a b
      · exact absurd d (by simp)
      · exact h0
      · have d := EReal.coe_le_coe_iff.1 d
        refine EReal.coe_le_coe_iff.2 (zpow_le_zpow_right₀ (by norm_num) ?_)
        by_contra hc
        have : (2 : ℝ) ^ (e + 1) ≤ (2 : ℝ) ^ ((k.val : ℤ) - 127) := zpow_le_zpow_right₀ (by norm_num) (by omega)
        have := hv' (by omega)
        linarith
    · exact h0
  · unfold part
    rw [Finset.le_fold_max]
    refine Or.inr ⟨⟨(e + 127).toNat, by omega⟩, Finset.mem_univ _, ?_⟩
    rw [ofBits_pow]
    have ez : (((e + 127).toNat : ℕ) : ℤ) - 127 = e := by omega
    simp only [ez, show ¬ (e + 127).toNat = 255 by omega, show ¬ (e + 127).toNat = 0 by omega, if_false]
    rw [if_pos (EReal.coe_le_coe_iff.2 hv)]

/-- The scale and the factor of a block over finite numbers are the powers of two of the reference's exponent and of its negative. -/
theorem scale_eq {a : ℝ} (ha : 0 ≤ a) :
    scaleOf (a : EReal) = Ideal.pow (Ideal.ofBits FTy.f32 1073741824#32) (rExp a)
      ∧ invOf (a : EReal) = Ideal.pow (Ideal.ofBits FTy.f32 1073741824#32) (-(rExp a)) := by
  obtain ⟨s, hs, hs0⟩ := ofBits_step
  obtain ⟨M, hM, hM1, hM2⟩ := ofBits_max
  unfold scaleOf invOf rExp
  rw [hs, hM, ofBits_tiny, ofBits_two, ofBits_half, ← EReal.coe_mul, ← EReal.coe_strictMono.monotone.map_min]
  set v := a * s with hv
  have v0 : 0 ≤ v := mul_nonneg ha hs0.le
  by_cases hlt : min v M < (2 : ℝ) ^ (-126 : ℤ)
  · have hvlt : v < (2 : ℝ) ^ (-126 : ℤ) := by
      rcases min_lt_iff.1 hlt with h | h
      · exact h
      · exfalso
        have : (2 : ℝ) ^ (-126 : ℤ) ≤ (2 : ℝ) ^ (127 : ℤ) := zpow_le_zpow_right₀ (by norm_num) (by norm_num)
        linarith
    rw [part_small v0 hvlt, if_pos rfl, if_pos rfl, if_pos (EReal.coe_lt_coe_iff.2 hlt)]
    refine ⟨?_, ?_⟩
    · show (1 : EReal) = ((Real.rpow 2 0 : ℝ) : EReal)
      simp
    · rw [neg_zero]
      show (1 : EReal) = ((Real.rpow 2 0 : ℝ) : EReal)
      simp
  · set u := min v M with hu
    have hu1 : (2 : ℝ) ^ (-126 : ℤ) ≤ u := not_lt.1 hlt
    have hu0 : 0 < u := lt_of_lt_of_le (by positivity) hu1
    have hl2 : (0 : ℝ) < Real.log 2 := Real.log_pos (by norm_num)
    set e : ℤ := ⌊Real.log u / Real.log 2⌋ with he
    have hlog : ∀ z : ℤ, ((z : ℝ) ≤ Real.log u / Real.log 2 ↔ (2 : ℝ) ^ z ≤ u) := fun z => by
      rw [le_div_iff₀ hl2, ← Real.log_zpow, Real.log_le_log_iff (by positivity) hu0]
    have k1 : (2 : ℝ) ^ e ≤ u := (hlog e).1 (Int.floor_le _)
    have k2 : u < (2 : ℝ) ^ (e + 1) := by
      by_contra hc
      have := (hlog (e + 1)).2 (not_lt.1 hc)
      have := Int.lt_floor_add_one (Real.log u / Real.log 2)
      push_cast at *
      linarith
    have e1 : -126 ≤ e := Int.le_floor.2 ((hlog (-126)).2 hu1)
    have e2 : e ≤ 127 := by
      by_contra hc
      have : (2 : ℝ) ^ (128 : ℤ) ≤ (2 : ℝ) ^ e := zpow_le_zpow_right₀ (by norm_num) (by omega)
      have : u ≤ M := min_le_right _ _
      linarith
    have hp : part (v : EReal) = (((2 : ℝ) ^ e : ℝ) : EReal) := by
      refine part_pow e1 e2 (k1.trans (min_le_left _ _)) fun h => ?_
      rcases min_lt_iff.1 k2 with h' | h'
      · exact h'
      · exfalso
        have : (2 : ℝ) ^ (e + 1) ≤ (2 : ℝ) ^ (127 : ℤ) := zpow_le_zpow_right₀ (by norm_num) (by omega)
        linarith
    have hpe : (2 : ℝ) ^ e ≠ 0 := by positivity
    have lu : Ideal.log (u : EReal) = ((Real.log u : ℝ) : EReal) := if_neg (not_le.2 hu0)
    have l2 : Ideal.log ((2 : ℝ) : EReal) = ((Real.log 2 : ℝ) : EReal) := if_neg (by norm_num)
    have hpE : ¬ (((2 : ℝ) ^ e : ℝ) : EReal) = 0 := fun h => hpe (EReal.coe_eq_zero.1 h)
    rw [hp, if_neg hpE, if_neg hpE, if_neg (fun h => hlt (EReal.coe_lt_coe_iff.1 h)), lu, l2,
      div_real hl2.ne', Ideal.liftRound_coe, div_real hpe, ← EReal.coe_mul, ← EReal.coe_one, ← EReal.coe_add, ← EReal.coe_neg]
    rw [← he]
    refine ⟨?_, ?_⟩
    · show _ = ((Real.rpow 2 _ : ℝ) : EReal)
      refine congrArg _ ?_
      show _ = (2 : ℝ) ^ ((e : ℝ) + 1)
      rw [show ((e : ℝ) + 1) = ((e + 1 : ℤ) : ℝ) by push_cast; rfl, Real.rpow_intCast, zpow_add₀ (by norm_num), zpow_one]
    · show _ = ((Real.rpow 2 _ : ℝ) : EReal)
      refine congrArg _ ?_
      show _ = (2 : ℝ) ^ (-((e : ℝ) + 1))
      rw [show (-((e : ℝ) + 1)) = ((-(e + 1) : ℤ) : ℝ) by push_cast; rfl, Real.rpow_intCast, zpow_neg, zpow_add₀ (by norm_num), zpow_one]
      field_simp

end Cert.KernelIdeal.Val

end
-- ==== Proof.Goal.lean ====
module

public import proofs.«01_k».proof.Proof.Quant
public import proofs.«01_k».proof.Proof.Tok

/-!
The four results as functions of the eight arguments: the gradient of each token in the reference's form, its codes and block scales, and the two
parameter gradients.
-/

@[expose] public section

noncomputable section

namespace Cert.Goal

open Idealize.ShloMosaic Cert.KernelIdeal.Val

/-- The eight arguments. -/
structure Args where
  x : (⟨3, ![48, 2048, 1280]⟩ : Shape).Idx → EReal
  dy : (⟨3, ![48, 2048, 1280]⟩ : Shape).Idx → EReal
  mean : (⟨2, ![48, 2048]⟩ : Shape).Idx → EReal
  r : (⟨2, ![48, 2048]⟩ : Shape).Idx → EReal
  g : (⟨1, ![1280]⟩ : Shape).Idx → EReal
  n : (⟨1, ![3]⟩ : Shape).Idx → EReal
  pg : (⟨3, ![3, 48, 2048]⟩ : Shape).Idx → EReal
  px : (⟨3, ![3, 48, 2048]⟩ : Shape).Idx → EReal

/-- The number of features over all ranks. -/
def Args.nTot (a : Args) : EReal := ((a.n (ix1 0) + a.n (ix1 1)) + a.n (ix1 2)) + Ideal.ofBits FTy.f32 1151336448#32

/-- The three other ranks' sums at token `(B, T)`. -/
def peer (p : (⟨3, ![3, 48, 2048]⟩ : Shape).Idx → EReal) (B : Fin 48) (T : Fin 2048) : EReal := (p (ix3 0 B T) + p (ix3 1 B T)) + p (ix3 2 B T)

/-- The gradient at token `(B, T)`, feature `h`. -/
def Args.dx (a : Args) (B : Fin 48) (T : Fin 2048) (h : Fin 1280) : EReal :=
  rDx (fun k => a.x (ix3 B T k)) (fun k => a.dy (ix3 B T k)) (fun k => a.g (ix1 k)) (a.mean (ix2 B T)) (a.r (ix2 B T)) (peer a.pg B T) (peer a.px B T) a.nTot h

/-- The exponent of block `q` of token `(B, T)`. -/
def Args.ex (a : Args) (B : Fin 48) (T : Fin 2048) (q : Fin 10) : EReal := rExp (absmax fun l => a.dx B T (col q l))

/-- The scale of block `q` of token `(B, T)`. -/
def Args.scale (a : Args) (q : Fin 10) (B : Fin 48) (T : Fin 2048) : EReal := Ideal.pow (Ideal.ofBits FTy.f32 1073741824#32) (a.ex B T q)

/-- The code at token `(B, T)`, feature `h`. -/
def Args.code (a : Args) (B : Fin 48) (T : Fin 2048) (h : Fin 1280) : EReal :=
  min (Ideal.ofBits FTy.f32 1197473792#32) (max (Ideal.ofBits FTy.f32 3344957440#32)
    (a.dx B T h * Ideal.pow (Ideal.ofBits FTy.f32 1073741824#32) (-(a.ex B T ⟨h.val / 128, by omega⟩))))

/-- The gamma gradient. -/
def Args.dgamma (a : Args) (h : Fin 1280) : EReal := ∑ B : Fin 48, ∑ T : Fin 2048, a.dy (ix3 B T h) * ((a.x (ix3 B T h) - a.mean (ix2 B T)) * a.r (ix2 B T))

/-- The beta gradient. -/
def Args.dbeta (a : Args) (h : Fin 1280) : EReal := ∑ B : Fin 48, ∑ T : Fin 2048, a.dy (ix3 B T h)

/-- Every argument is real everywhere and there are features to average over. -/
structure Args.Good (a : Args) : Prop where
  x : ∀ i, IsFin (a.x i)
  dy : ∀ i, IsFin (a.dy i)
  mean : ∀ i, IsFin (a.mean i)
  r : ∀ i, IsFin (a.r i)
  g : ∀ i, IsFin (a.g i)
  n : ∀ i, IsFin (a.n i)
  pg : ∀ i, IsFin (a.pg i)
  px : ∀ i, IsFin (a.px i)
  n0 : a.nTot ≠ 0

end Cert.Goal

end
-- ==== Proof.Reindex.lean ====
module

public import proofs.«01_k».proof.Proof.Goal

/-!
Sums over the kernel's grid points, trips and sublanes as sums over tokens, and the largest absolute value of 128 real numbers.
-/

@[expose] public section

noncomputable section

namespace Cert.Goal

open Idealize.ShloMosaic Cert.KernelIdeal.Val

variable {M : Type*} [AddCommMonoid M]

/-- A sum over 96 grid points, 8 rows and 128 tokens is the sum over the 48 rows and 2048 tokens they stand for. -/
theorem sum_grid (f : Fin 48 → Fin 2048 → M) :
    ∑ t : Fin 96, ∑ b : Fin 8, ∑ u : Fin 128, f ⟨t.val / 16 * 8 + b.val, by omega⟩ ⟨t.val % 16 * 128 + u.val, by omega⟩ = ∑ B, ∑ T, f B T := by
  rw [sum_split 6 8 (fun B : Fin 48 => ∑ T, f B T), sum_split 6 16 (fun t : Fin 96 => ∑ b : Fin 8, ∑ u : Fin 128, f ⟨t.val / 16 * 8 + b.val, by omega⟩ ⟨t.val % 16 * 128 + u.val, by omega⟩)]
  refine Finset.sum_congr rfl fun i _ => ?_
  rw [Finset.sum_comm]
  refine Finset.sum_congr rfl fun b _ => ?_
  rw [sum_split 16 128 (fun T : Fin 2048 => f _ T)]
  refine Finset.sum_congr rfl fun j _ => Finset.sum_congr rfl fun u _ => ?_
  exact congrArg₂ f (Fin.ext (by show (i.val * 16 + j.val) / 16 * 8 + b.val = i.val * 8 + b.val; omega))
    (Fin.ext (by show (i.val * 16 + j.val) % 16 * 128 + u.val = j.val * 128 + u.val; omega))

/-- A sum over 16 half rows of 8 groups of 8 sublanes is the sum over 8 rows of 128 tokens. -/
theorem sum_trips (f : Fin 8 → Fin 128 → M) :
    ∑ r : Fin 8, ∑ k : Fin 16, ∑ g : Fin 8, f ⟨k.val / 2, by omega⟩ ⟨64 * (k.val % 2) + (g.val * 8 + r.val), by omega⟩ = ∑ b, ∑ u, f b u := by
  rw [Finset.sum_comm, sum_split 8 2 (fun k : Fin 16 => ∑ r : Fin 8, ∑ g : Fin 8, f ⟨k.val / 2, by omega⟩ ⟨64 * (k.val % 2) + (g.val * 8 + r.val), by omega⟩)]
  refine Finset.sum_congr rfl fun b _ => ?_
  rw [sum_split 2 64 (fun u : Fin 128 => f b u)]
  refine Finset.sum_congr rfl fun i _ => ?_
  rw [sum_split 8 8 (fun v : Fin 64 => f b ⟨i.val * 64 + v.val, by omega⟩), Finset.sum_comm]
  refine Finset.sum_congr rfl fun g _ => Finset.sum_congr rfl fun r _ => ?_
  exact congrArg₂ f (Fin.ext (by show (b.val * 2 + i.val) / 2 = b.val; omega))
    (Fin.ext (by show 64 * ((b.val * 2 + i.val) % 2) + (g.val * 8 + r.val) = i.val * 64 + (g.val * 8 + r.val); omega))

theorem ofBits_neg_inf : Ideal.ofBits FTy.f32 4286578688#32 = ⊥ := by
  simp [Ideal.ofBits, Ideal.ieee]

/-- The largest absolute value of real numbers is a real number, not negative. -/
theorem absmax_real {f : Fin 128 → EReal} (hf : ∀ l, IsFin (f l)) : ∃ r : ℝ, 0 ≤ r ∧ absmax f = (r : EReal) := by
  have h0 : ∀ l, (0 : EReal) ≤ max (f l) (-(f l)) ∧ max (f l) (-(f l)) < ⊤ := fun l => by
    obtain ⟨x, hx⟩ := hf l
    rw [hx, ← EReal.coe_neg, ← EReal.coe_strictMono.monotone.map_max]
    exact ⟨by exact_mod_cast abs_nonneg x, EReal.coe_lt_top _⟩
  have hlo : (0 : EReal) ≤ absmax f := (Finset.le_fold_max (0 : EReal)).2 (Or.inr ⟨0, Finset.mem_univ _, (h0 0).1⟩)
  have hhi : absmax f < ⊤ := (Finset.fold_max_lt (⊤ : EReal)).2 ⟨by rw [ofBits_neg_inf]; exact bot_lt_top, fun l _ => (h0 l).2⟩
  refine ⟨(absmax f).toReal, EReal.toReal_nonneg hlo, (EReal.coe_toReal hhi.ne ?_).symm⟩
  intro h
  rw [h] at hlo
  exact absurd hlo (by simp)

end Cert.Goal

end
-- ==== Proof.KernV.lean ====
module

public import proofs.«01_k».proof.Proof.RunV
public import proofs.«01_k».proof.Proof.Reindex
public import Idealize.ShloMosaic.Lib.Pipeline.ValueKit

/-!
The kernel's result arrays, element by element, over its arguments.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Cert.Goal (Args sum_grid sum_trips absmax_real)

variable (m : (ℓ : Loc nD τ sig) → Buf (Elt Ideal) ℓ)

/-- The arguments as core `c` has them. -/
def args (c : Dev nD) : Args where
  x := m (c, Proc.tc.devRef main_arg0)
  dy := m (c, Proc.tc.devRef main_arg1)
  mean := m (c, Proc.tc.devRef main_arg2)
  r := m (c, Proc.tc.devRef main_arg3)
  g := m (c, Proc.tc.devRef main_arg4)
  n := m (c, Proc.tc.devRef main_arg5)
  pg := m (c, Proc.tc.devRef main_arg6)
  px := m (c, Proc.tc.devRef main_arg7)

/-- Every step sees the same counts. -/
theorem idx0 : ∀ t : Fin cfg0.N, win0_0.index t = ![0] := (by decide +kernel : ∀ t : Fin grid0.N, _)
/-- The number of the block of `x` that each step has. -/
theorem idx1 : ∀ t : Fin cfg0.N, win0_1.index t = ![t.val / 16, t.val % 16, 0] := (by decide +kernel : ∀ t : Fin grid0.N, _)
/-- The number of the block of `dy` that each step has. -/
theorem idx2 : ∀ t : Fin cfg0.N, win0_2.index t = ![t.val / 16, t.val % 16, 0] := (by decide +kernel : ∀ t : Fin grid0.N, _)
/-- The number of the block of the means that each step has. -/
theorem idx3 : ∀ t : Fin cfg0.N, win0_3.index t = ![t.val / 16, t.val % 16] := (by decide +kernel : ∀ t : Fin grid0.N, _)
/-- The number of the block of the reciprocal deviations that each step has. -/
theorem idx4 : ∀ t : Fin cfg0.N, win0_4.index t = ![t.val / 16, t.val % 16] := (by decide +kernel : ∀ t : Fin grid0.N, _)
/-- The number of the block of the weights that each step has. -/
theorem idx5 : ∀ t : Fin cfg0.N, win0_5.index t = ![0, 0] := (by decide +kernel : ∀ t : Fin grid0.N, _)
/-- The number of the block of the peers' sums of `g` that each step has. -/
theorem idx6 : ∀ t : Fin cfg0.N, win0_6.index t = ![0, t.val / 16, t.val % 16] := (by decide +kernel : ∀ t : Fin grid0.N, _)
/-- The number of the block of the peers' sums of `g·xhat` that each step has. -/
theorem idx7 : ∀ t : Fin cfg0.N, win0_7.index t = ![0, t.val / 16, t.val % 16] := (by decide +kernel : ∀ t : Fin grid0.N, _)
/-- The number of the block of the codes that each step has. -/
theorem idx8 : ∀ t : Fin cfg0.N, win0_8.index t = ![t.val / 16, t.val % 16, 0] := (by decide +kernel : ∀ t : Fin grid0.N, _)
/-- The number of the block of the scales that each step has. -/
theorem idx9 : ∀ t : Fin cfg0.N, win0_9.index t = ![0, t.val / 16, t.val % 16] := (by decide +kernel : ∀ t : Fin grid0.N, _)

/-- A step number is under 96. -/
theorem lt96 (t : Fin cfg0.N) : t.val < 96 := Nat.lt_of_lt_of_eq t.isLt N_0

/-- The batch row of point `t`'s row `b`. -/
def row (t : Fin cfg0.N) (b : Fin 8) : Fin 48 := ⟨t.val / 16 * 8 + b.val, by have := lt96 t; omega⟩

/-- The token of point `t`'s token `u`. -/
def tok (t : Fin cfg0.N) (u : Fin 128) : Fin 2048 := ⟨t.val % 16 * 128 + u.val, by omega⟩

/-- Entry `k` of the counts a step sees is entry `k` of the argument. -/
theorem blk0 (c : Dev nD) (t : Fin cfg0.N) (k : Fin 3) : (iblk m c 0 t (ix1 k) : EReal) = (args m c).n (ix1 k) := by
  blk_point [iblk, V, args, idx0 t]

/-- An entry of the `x` block of step `t` is the argument's entry at that step's row and token. -/
theorem blk1 (c : Dev nD) (t : Fin cfg0.N) (b : Fin 8) (u : Fin 128) (h : Fin 1280) : (iblk m c 1 t (ix3 b u h) : EReal) = (args m c).x (ix3 (row t b) (tok t u) h) := by
  blk_point [iblk, V, args, row, tok, idx1 t]

/-- The same for `dy`. -/
theorem blk2 (c : Dev nD) (t : Fin cfg0.N) (b : Fin 8) (u : Fin 128) (h : Fin 1280) : (iblk m c 2 t (ix3 b u h) : EReal) = (args m c).dy (ix3 (row t b) (tok t u) h) := by
  blk_point [iblk, V, args, row, tok, idx2 t]

/-- The same for the means. -/
theorem blk3 (c : Dev nD) (t : Fin cfg0.N) (b : Fin 8) (u : Fin 128) : (iblk m c 3 t (ix2 b u) : EReal) = (args m c).mean (ix2 (row t b) (tok t u)) := by
  blk_point [iblk, V, args, row, tok, idx3 t]

/-- The same for the reciprocal deviations. -/
theorem blk4 (c : Dev nD) (t : Fin cfg0.N) (b : Fin 8) (u : Fin 128) : (iblk m c 4 t (ix2 b u) : EReal) = (args m c).r (ix2 (row t b) (tok t u)) := by
  blk_point [iblk, V, args, row, tok, idx4 t]

/-- The same for the peers' sums of `g`. -/
theorem blk6 (c : Dev nD) (t : Fin cfg0.N) (k : Fin 3) (b : Fin 8) (u : Fin 128) : (iblk m c 6 t (ix3 k b u) : EReal) = (args m c).pg (ix3 k (row t b) (tok t u)) := by
  blk_point [iblk, V, args, row, tok, idx6 t]

/-- The same for the peers' sums of `g·xhat`. -/
theorem blk7 (c : Dev nD) (t : Fin cfg0.N) (k : Fin 3) (b : Fin 8) (u : Fin 128) : (iblk m c 7 t (ix3 k b u) : EReal) = (args m c).px (ix3 k (row t b) (tok t u)) := by
  blk_point [iblk, V, args, row, tok, idx7 t]

/-- The row of weights a step sees is the argument laid out as one row. -/
theorem blk5 (c : Dev nD) (t : Fin cfg0.N) (k : Fin 1280) : (iblk m c 5 t (ix2 0 k) : EReal) = (args m c).g (ix1 k) := by
  have e : (iblk m c 5 t (ix2 0 k) : EReal) = V m c main_v0 (ix2 0 k) := by
    blk_point [iblk, V, args, idx5 t]
  refine e.trans ?_
  entry_read
  pointwise [args]

/-- The gradient of a block, feature by feature. -/
theorem gradV_eq (x1 : FVec Ideal S3 .f32) (x2 x3 : FVec Ideal S8x128x1280 .bf16) (x4 x5 : FVec Ideal S8x128 .f32) (x6 : FVec Ideal S1x1280 .f32)
    (x7 x8 : FVec Ideal S3x8x128 .f32) (b : Fin 8) (u : Fin 128) (h : Fin 1280) :
    (gradV x1 x2 x3 x4 x5 x6 x7 x8 (ix3 b u h) : EReal)
      = kDx (fun k => x2 (ix3 b u k)) (fun k => x3 (ix3 b u k)) (fun k => x6 (ix2 0 k)) (x4 (ix2 b u)) (x5 (ix2 b u)) (peerV x7 b u) (peerV x8 b u) (nV x1) h := rfl

/-- A sum of two finite numbers is finite. -/
theorem fin_add {x y : EReal} (hx : IsFin x) (hy : IsFin y) : IsFin (x + y) := by
  obtain ⟨a, rfl⟩ := hx
  obtain ⟨b, rfl⟩ := hy
  exact ⟨a + b, (EReal.coe_add a b).symm⟩

/-- The sum over the three peers of finite entries is finite. -/
theorem fin_peer {p : (⟨3, ![3, 48, 2048]⟩ : Shape).Idx → EReal} (h : ∀ i, IsFin (p i)) (B : Fin 48) (T : Fin 2048) : IsFin (Cert.Goal.peer p B T) :=
  fin_add (fin_add (h _) (h _)) (h _)

/-- The total count is finite. -/
theorem fin_n {a : Args} (h : a.Good) : IsFin a.nTot :=
  fin_add (fin_add (fin_add (h.n _) (h.n _)) (h.n _)) ⟨1280, by simp [Ideal.ofBits, Ideal.ieee]; rw [← EReal.coe_mul]; exact congrArg _ (by norm_num)⟩

/-- The gradient the kernel forms at a token is the reference's, a real number. -/
theorem grad_at (c : Dev nD) (hg : (args m c).Good) (t : Fin cfg0.N) (b : Fin 8) (u : Fin 128) (h : Fin 1280) :
    (gradAt m c t (ix3 b u h) : EReal) = (args m c).dx (row t b) (tok t u) h ∧ IsFin ((args m c).dx (row t b) (tok t u) h) := by
  have e := kDx_eq (x := fun k => (args m c).x (ix3 (row t b) (tok t u) k)) (dy := fun k => (args m c).dy (ix3 (row t b) (tok t u) k))
    (g := fun k => (args m c).g (ix1 k)) (fun k => hg.x _) (fun k => hg.dy _) (fun k => hg.g _) (hg.mean (ix2 (row t b) (tok t u))) (hg.r (ix2 (row t b) (tok t u)))
    (fin_peer hg.pg (row t b) (tok t u)) (fin_peer hg.px (row t b) (tok t u)) (fin_n hg) hg.n0 h
  refine ⟨?_, e.2⟩
  refine Eq.trans ?_ e.1
  unfold gradAt
  rw [gradV_eq]
  unfold peerV nV
  rw [blk3, blk4, blk6, blk6, blk6, blk7, blk7, blk7, blk0, blk0, blk0]
  simp only [blk1, blk2, blk5]
  rfl

/-- The largest absolute value of a block of a token. -/
theorem block_at (c : Dev nD) (hg : (args m c).Good) (t : Fin cfg0.N) (b : Fin 8) (u : Fin 128) (q : Fin 10) :
    absmax (blockOf (gradAt m c t) b u q) = absmax fun l => (args m c).dx (row t b) (tok t u) (col q l) :=
  absmax_congr fun l => (grad_at m c hg t b u (col q l)).1

/-- The scales the kernel leaves. -/
theorem scale_at (c : Dev nD) (hg : (args m c).Good) (t : Fin cfg0.N) (q : Fin 10) (b : Fin 8) (u : Fin 128) :
    (scaleV (gradAt m c t) (ix3 q b u) : EReal) = (args m c).scale q (row t b) (tok t u) := by
  refine (scaleOf_congr (block_at m c hg t b u q)).trans ?_
  obtain ⟨r, hr, e⟩ := absmax_real fun l => (grad_at m c hg t b u (col q l)).2
  unfold Args.scale Args.ex
  rw [e]
  exact (scale_eq hr).1

/-- The codes the kernel leaves. -/
theorem code_at (c : Dev nD) (hg : (args m c).Good) (t : Fin cfg0.N) (b : Fin 8) (u : Fin 128) (h : Fin 1280) :
    (codeV (gradAt m c t) (ix3 b u h) : EReal) = (args m c).code (row t b) (tok t u) h := by
  refine (codeOf_congr (grad_at m c hg t b u h).1 (block_at m c hg t b u ⟨h.val / 128, by omega⟩)).trans ?_
  obtain ⟨r, hr, e⟩ := absmax_real fun l => (grad_at m c hg t b u (col ⟨h.val / 128, by omega⟩ l)).2
  unfold codeOf Args.code Args.ex
  rw [e, (scale_eq hr).2]

/-- Grid point `t`. -/
def pt (t : Fin 96) : Fin cfg0.N := ⟨t.val, Nat.lt_of_lt_of_eq t.isLt N_0.symm⟩

/-- The shares of all points. -/
theorem upTo_all (f : Fin cfg0.N → FVec Ideal S8x1280 .f32) (y : S8x1280.Idx) : (upTo f 96 y : EReal) = ∑ t : Fin 96, (f (pt t) y : EReal) := by
  unfold upTo
  rw [Finset.sum_range]
  refine Finset.sum_congr rfl fun t _ => ?_
  exact dif_pos (Nat.lt_of_lt_of_eq t.isLt N_0.symm)

/-- Row `k` of the second accumulator at the end: a sum over all tokens of the output gradient with a factor per token. -/
theorem db_row (c : Dev nD) (k : Fin 8) (h : Fin 1280) (w : EReal → EReal)
    (hw : ∀ (t : Fin cfg0.N) (b : Fin 8) (u : Fin 128), lhsV (iblk m c 3 t) (iblk m c 4 t) b k u = w ((args m c).mean (ix2 (row t b) (tok t u)) * (args m c).r (ix2 (row t b) (tok t u)))) :
    (upTo (dbStep m c) 96 (ix2 k h) : EReal)
      = ∑ B : Fin 48, ∑ T : Fin 2048, w ((args m c).mean (ix2 B T) * (args m c).r (ix2 B T)) * (args m c).dy (ix3 B T h) := by
  rw [upTo_all, ← sum_grid fun B T => w ((args m c).mean (ix2 B T) * (args m c).r (ix2 B T)) * (args m c).dy (ix3 B T h)]
  refine Finset.sum_congr rfl fun t _ => ?_
  refine Finset.sum_congr rfl fun b _ => ?_
  refine Finset.sum_congr rfl fun u _ => ?_
  exact congrArg₂ (· * ·) (hw (pt t) b u) (blk2 m c (pt t) b u h)

/-- The beta gradient the kernel leaves. -/
theorem beta_at (c : Dev nD) (h : Fin 1280) : (betaV (upTo (dbStep m c) 96) (ix2 0 h) : EReal) = (args m c).dbeta h := by
  refine (db_row m c 0 h (fun _ => 1) fun t b u => ?_).trans ?_
  · rfl
  · simp only [one_mul]
    rfl

/-- The first accumulator's rows at the end, added up: a sum over all tokens. -/
theorem dg_rows (c : Dev nD) (h : Fin 1280) :
    (∑ r : Fin 8, (upTo (dgStep m c) 96 (ix2 r h) : EReal))
      = ∑ B : Fin 48, ∑ T : Fin 2048, ((args m c).dy (ix3 B T h) * (args m c).r (ix2 B T)) * (args m c).x (ix3 B T h) := by
  simp only [upTo_all]
  rw [Finset.sum_comm, ← sum_grid fun B T => ((args m c).dy (ix3 B T h) * (args m c).r (ix2 B T)) * (args m c).x (ix3 B T h)]
  refine Finset.sum_congr rfl fun t _ => ?_
  have e := sum_trips fun (b : Fin 8) (u : Fin 128) => (prV (iblk m c 1 (pt t)) (iblk m c 2 (pt t)) (iblk m c 4 (pt t)) (ix3 b u h) : EReal)
  refine Eq.trans (Finset.sum_congr rfl fun r _ => ?_) (e.trans ?_)
  · show (∑ k ∈ Finset.range 16, if h' : k < 16 then (dgTrip _ _ _ ⟨k, h'⟩ (ix2 r h) : EReal) else 0) = _
    rw [Finset.sum_range]
    refine Finset.sum_congr rfl fun k _ => ?_
    rw [dif_pos k.isLt]
    rfl
  · refine Finset.sum_congr rfl fun b _ => ?_
    refine Finset.sum_congr rfl fun u _ => ?_
    exact congrArg₂ (· * ·) (congrArg₂ (· * ·) (blk2 m c (pt t) b u h) (blk4 m c (pt t) b u)) (blk1 m c (pt t) b u h)

/-- The factor of row 1 of the second accumulator. -/
theorem lhs_at (c : Dev nD) (t : Fin cfg0.N) (b : Fin 8) (u : Fin 128) :
    lhsV (iblk m c 3 t) (iblk m c 4 t) b 1 u = (args m c).mean (ix2 (row t b) (tok t u)) * (args m c).r (ix2 (row t b) (tok t u)) := by
  exact congrArg₂ (· * ·) (blk3 m c t b u) (blk4 m c t b u)

/-- The gamma gradient the kernel leaves. -/
theorem gamma_at (c : Dev nD) (hg : (args m c).Good) (h : Fin 1280) :
    (gammaV (upTo (dgStep m c) 96) (upTo (dbStep m c) 96) (ix2 0 h) : EReal) = (args m c).dgamma h := by
  show (∑ r : Fin 8, (upTo (dgStep m c) 96 (ix2 r h) : EReal))
    - (((upTo (dbStep m c) 96 (ix2 1 h) : EReal) + upTo (dbStep m c) 96 (ix2 2 h)) + upTo (dbStep m c) 96 (ix2 3 h)) = _
  rw [dg_rows, db_row m c 1 h (fun v => v) (lhs_at m c),
    db_row m c 2 h (fun v => v - v) (fun t b u => congrArg (fun v : EReal => v - v) (lhs_at m c t b u)),
    db_row m c 3 h (fun v => (v - v) - (v - v)) (fun t b u => congrArg (fun v : EReal => (v - v) - (v - v)) (lhs_at m c t b u))]
  have e := dgamma_eq (Finset.univ : Finset (Fin 48 × Fin 2048)) (x := fun i => (args m c).x (ix3 i.1 i.2 h)) (dy := fun i => (args m c).dy (ix3 i.1 i.2 h))
    (mean := fun i => (args m c).mean (ix2 i.1 i.2)) (r := fun i => (args m c).r (ix2 i.1 i.2)) (fun i => hg.x _) (fun i => hg.dy _) (fun i => hg.mean _) (fun i => hg.r _)
  simp only [Fintype.sum_prod_type] at e
  exact e

end Cert.KernelIdeal.Val

end
-- ==== Proof.ArrV.lean ====
module

public import proofs.«01_k».proof.Proof.KernV
public import Idealize.ShloMosaic.Lib.Pipeline.ArrRel

/-!
The kernel's four result arrays at the end of a run, whatever order the blocks were written back in.
-/

@[expose] public section

noncomputable section

namespace Cert.Goal

open Idealize.ShloMosaic

/-- The codes as an array. -/
def Args.codes (a : Args) : (⟨3, ![48, 2048, 1280]⟩ : Shape).Idx → EReal := fun y => a.code (y 0) (y 1) (y 2)

/-- The scales as an array, block first. -/
def Args.scales (a : Args) : (⟨3, ![10, 48, 2048]⟩ : Shape).Idx → EReal := fun y => a.scale (y 0) (y 1) (y 2)

/-- The gamma gradient as an array. -/
def Args.dgammas (a : Args) : (⟨2, ![1, 1280]⟩ : Shape).Idx → EReal := fun y => a.dgamma (y 1)

/-- The beta gradient as an array. -/
def Args.dbetas (a : Args) : (⟨2, ![1, 1280]⟩ : Shape).Idx → EReal := fun y => a.dbeta (y 1)

end Cert.Goal

namespace Cert.KernelIdeal.Val

open Cert.KernelIdeal Cert.KernelIdeal.Gen Cert.KernelIdeal.Hand
open Idealize.ShloMosaic Idealize.ShloMosaic.TcCoe Idealize.ShloMosaic.Tactic
open Idealize.ShloMosaic.Pipeline (RDat Dat)
open Cert.Goal (Args)

variable (m : (ℓ : Loc nD τ sig) → Buf (Elt Ideal) ℓ)

/-- The dgamma block is written back after the last step only. -/
theorem flush10 : ∀ t : Fin cfg0.N, (cfg0.win 10).flush t = true → t.val = 95 := (by decide +kernel : ∀ t : Fin grid0.N, win0_10.flush t = true → t.val = 95)
/-- The dbeta block is written back after the last step only. -/
theorem flush11 : ∀ t : Fin cfg0.N, (cfg0.win 11).flush t = true → t.val = 95 := (by decide +kernel : ∀ t : Fin grid0.N, win0_11.flush t = true → t.val = 95)
/-- Every step has the one dgamma block. -/
theorem idx10 : ∀ t : Fin cfg0.N, win0_10.index t = ![0, 0] := (by decide +kernel : ∀ t : Fin grid0.N, _)
/-- Every step has the one dbeta block. -/
theorem idx11 : ∀ t : Fin cfg0.N, win0_11.index t = ![0, 0] := (by decide +kernel : ∀ t : Fin grid0.N, _)

/-- The proof data with given block contents left by the body. -/
abbrev datW (c : Dev nD) (after : (w : Fin cfg0.W) → Fin cfg0.N → (cfg0.win w).block.Idx → Elt Ideal (cfg0.win w).elt) :=
  ((dats m 0 c).toRRel isResult (Rl m c)).withAfter after

variable (c : Dev nD) (hg : (args m c).Good) (after : (w : Fin cfg0.W) → Fin cfg0.N → (cfg0.win w).block.Idx → Elt Ideal (cfg0.win w).elt)

include hg

/-- Point `t`'s codes are its block of the codes' array. -/
theorem codes_pt (t : Fin cfg0.N) (y : S8x128x1280.Idx) :
    (codeV (gradAt m c t) y : EReal) = (args m c).codes ((win0_8.blk t).view.emb y) := by
  rw [eq_ix3 y]
  refine (code_at m c hg t (y 0) (y 1) (y 2)).trans ?_
  refine congr (congr (congrArg (args m c).code ?_) ?_) ?_ <;> refine Fin.ext ?_ <;> blk_simp [idx8 t, row, tok]

/-- Point `t`'s scales are its block of the scales' array. -/
theorem scales_pt (t : Fin cfg0.N) (y : S10x8x128.Idx) :
    (scaleV (gradAt m c t) y : EReal) = (args m c).scales ((win0_9.blk t).view.emb y) := by
  rw [eq_ix3 y]
  refine (scale_at m c hg t (y 0) (y 1) (y 2)).trans ?_
  refine congr (congr (congrArg (args m c).scale ?_) ?_) ?_ <;> refine Fin.ext ?_ <;> blk_simp [idx9 t, row, tok]

/-- The gamma gradient is its whole array. -/
theorem gamma_pt (t : Fin cfg0.N) (y : S1x1280.Idx) :
    (gammaV (upTo (dgStep m c) 96) (upTo (dbStep m c) 96) y : EReal) = (args m c).dgammas ((win0_10.blk t).view.emb y) := by
  refine (gamma_at m c hg (y 1)).trans ?_
  refine congrArg (args m c).dgamma (Fin.ext ?_)
  blk_simp [idx10 t]

omit hg in
/-- The beta gradient is its whole array. -/
theorem beta_pt (t : Fin cfg0.N) (y : S1x1280.Idx) :
    (betaV (upTo (dbStep m c) 96) y : EReal) = (args m c).dbetas ((win0_11.blk t).view.emb y) := by
  refine (beta_at m c (y 1)).trans ?_
  refine congrArg (args m c).dbeta (Fin.ext ?_)
  blk_simp [idx11 t]

/-- The codes' array. -/
theorem codes_arr (h : ∀ t, (cfg0.win 8).flush t = true → after 8 t = codeV (gradAt m c t)) :
    (datW m c after).arrAt 8 cfg0.N = (args m c).codes := by
  refine (datW m c after).arrAt_eq_of_covers 8 _ (by decide +kernel) fun t hf y => ?_
  blk_simp
  rw [RDat.withAfter_after, h t hf]
  exact codes_pt m c hg t y

/-- The scales' array. -/
theorem scales_arr (h : ∀ t, (cfg0.win 9).flush t = true → after 9 t = scaleV (gradAt m c t)) :
    (datW m c after).arrAt 9 cfg0.N = (args m c).scales := by
  refine (datW m c after).arrAt_eq_of_covers 9 _ (by decide +kernel) fun t hf y => ?_
  blk_simp
  rw [RDat.withAfter_after, h t hf]
  exact scales_pt m c hg t y

/-- The gamma gradient's array. -/
theorem gamma_arr (h : ∀ t, (cfg0.win 10).flush t = true → after 10 t = gammaV (upTo (dgStep m c) 96) (upTo (dbStep m c) 96)) :
    (datW m c after).arrAt 10 cfg0.N = (args m c).dgammas := by
  refine (datW m c after).arrAt_eq_of_covers 10 _ (by decide +kernel) fun t hf y => ?_
  blk_simp
  rw [RDat.withAfter_after, h t hf]
  exact gamma_pt m c hg t y

omit hg in
/-- The beta gradient's array. -/
theorem beta_arr (h : ∀ t, (cfg0.win 11).flush t = true → after 11 t = betaV (upTo (dbStep m c) 96)) :
    (datW m c after).arrAt 11 cfg0.N = (args m c).dbetas := by
  refine (datW m c after).arrAt_eq_of_covers 11 _ (by decide +kernel) fun t hf y => ?_
  blk_simp
  rw [RDat.withAfter_after, h t hf]
  exact beta_pt m c t y

/-- The four results of a run. -/
theorem results {r : PUnit × MemSt nD τ sig (Elt Ideal)}
    (h : RDat.FramePost (cfgs 0) (fun c => (dats m 0 c).toRRel isResult (Rl m c)) (V m) r) :
    r.2.mem ((c.tc : Thread nD τ).loc main_v1_0) = (args m c).codes
      ∧ r.2.mem ((c.tc : Thread nD τ).loc main_v1_1) = (args m c).scales
      ∧ r.2.mem ((c.tc : Thread nD τ).loc main_v1_2) = (args m c).dgammas
      ∧ r.2.mem ((c.tc : Thread nD τ).loc main_v1_3) = (args m c).dbetas := by
  obtain ⟨after, hL, hA⟩ := RDat.FramePost.exists_exact h c
  refine ⟨(hA 8).trans ?_, (hA 9).trans ?_, (hA 10).trans ?_, (hA 11).trans ?_⟩
  · exact codes_arr m c hg after fun t hf => (dats m 0 c).toRRel_leaves (w := 8) rfl (hL 8 t hf)
  · exact scales_arr m c hg after fun t hf => (dats m 0 c).toRRel_leaves (w := 9) rfl (hL 9 t hf)
  · exact gamma_arr m c hg after fun t hf => (dats m 0 c).toRRel_leaves (w := 10) rfl (hL 10 t hf) (flush10 t hf)
  · exact beta_arr m c after fun t hf => (dats m 0 c).toRRel_leaves (w := 11) rfl (hL 11 t hf) (flush11 t hf)

end Cert.KernelIdeal.Val

end
-- ==== Proof.RefV.lean ====
module

public import proofs.«01_k».proof.Proof.Gen.ReferenceIdeal.Value
public import proofs.«01_k».proof.Proof.Goal
public import Idealize.ShloMosaic.Lib.Pipeline.ValueKit
public import Idealize.ShloMosaic.Lib.Claim
public import Idealize.ShloMosaic.Lib.Pointwise

/-!
The reference's arrays, element by element, over its arguments.
-/

@[expose] public section
set_option maxRecDepth 16384
noncomputable section
namespace Cert.ReferenceIdeal.Val
open Cert.ReferenceIdeal Cert.ReferenceIdeal.Gen
open Idealize.ShloMosaic Idealize.ShloMosaic.TcCoe
open Cert.KernelIdeal.Val (col absmax rExp rDx)

variable (m : (ℓ : Loc nD τ sig) → Buf (Elt Ideal) ℓ)

/-- The buffers before the block exponents are selected. -/
def W (c : Dev nD) := StableHlo.after (hostOps0 (F := Ideal)) (fun b => m (c, b))

/-- The final contents are reached from `W` by the remaining four stretches of operations. -/
theorem V_eq (c : Dev nD) (r : Ref sig .tc) : V m c r = StableHlo.after (List.flatten [hostOps0_1, hostOps0_2, hostOps0_3, hostOps0_4]) (W m c) r := by
  show StableHlo.after (List.flatten [hostOps0, hostOps0_1, hostOps0_2, hostOps0_3, hostOps0_4]) _ _ = _
  rw [List.flatten_cons, StableHlo.after_append]
  rfl

/-- The block exponents: zero where the first array says so. -/
def selT (P : (⟨S48x2048x10, .i1⟩ : BufTy).Contents (Elt Ideal)) (z : FVec Ideal S_ .f32) (E : FVec Ideal S48x2048x10 .f32) : FVec Ideal S48x2048x10 .f32 :=
  select P (broadcastInDim S48x2048x10 ![] bcast_S_S48x2048x10 z) E

/-- Each block's largest absolute value over the largest code, at most the largest finite number. -/
def uT (Q : FVec Ideal S48x2048x10x128 .f32) : FVec Ideal S48x2048x10 .f32 :=
  minimumf (mulf (Host.reduce FloatOps.maximumf (Host.absf Q) (constant S_ FTy.f32 4286578688#32) reducesTo_S48x2048x10x128_S48x2048x10_d3 h_S_)
      (broadcastInDim S48x2048x10 ![] bcast_S_S48x2048x10 (constant S_ FTy.f32 932333861#32)))
    (broadcastInDim S48x2048x10 ![] bcast_S_S48x2048x10 (constant S_ FTy.f32 2139095039#32))

/-- The exponent of a block whose scaled largest value is normal. -/
def expT (U : FVec Ideal S48x2048x10 .f32) : FVec Ideal S48x2048x10 .f32 :=
  addf (Host.floor (Host.divf (Host.log U) (broadcastInDim S48x2048x10 ![] bcast_S_S48x2048x10 (Host.log (constant S_ FTy.f32 1073741824#32)))))
    (broadcastInDim S48x2048x10 ![] bcast_S_S48x2048x10 (constant S_ FTy.f32 1065353216#32))

/-- The scales are two to the selected exponents, transposed. -/
theorem scales_W (c : Dev nD) : V m c main_v81 = transpose S10x48x2048 [2, 0, 1]
      (Host.powf (broadcastInDim S48x2048x10 ![] bcast_S_S48x2048x10 (constant S_ FTy.f32 1073741824#32)) (selT (W m c main_v62) (W m c main_cst_8) (W m c main_v69))) transposes_S48x2048x10_S10x48x2048_2_0_1 := by
  rw [V_eq]
  generalize W m c = w
  simp only [hostOps0_1, hostOps0_2, hostOps0_3, hostOps0_4, List.flatten_cons, List.flatten_nil, List.append_nil, List.cons_append, List.nil_append, StableHlo.after_cons, StableHlo.after_nil]
  after_results_simp
  rfl

/-- The contents of a core's buffers. -/
abbrev StoreT := (b : DevRef τ sig) → b.ty.Contents (Elt Ideal)

/-- The first stretch after `W` leaves the selected exponents. -/
theorem q1 (w : StoreT) : StableHlo.after (hostOps0_1 (F := Ideal)) w main_v70 = selT (w main_v62) (w main_cst_8) (w main_v69) := by
  simp only [hostOps0_1, StableHlo.after_cons, StableHlo.after_nil]
  after_results_simp
  rfl

/-- The second stretch multiplies the gradient by two to minus the exponents. -/
theorem q2 (w : StoreT) : StableHlo.after (hostOps0_2 (F := Ideal)) w main_v78 = (mulf (w main_v54 : FVec Ideal S48x2048x10x128 .f32) (broadcastInDim S48x2048x10x128 ![0, 1, 2, 3] bcast_S48x2048x10x1_S48x2048x10x128_0_1_2_3 (broadcastInDim S48x2048x10x1 ![0, 1, 2] bcast_S48x2048x10_S48x2048x10x1_0_1_2 (Host.powf (broadcastInDim S48x2048x10 ![] bcast_S_S48x2048x10 (constant S_ FTy.f32 1073741824#32)) (Host.negf (w main_v70 : FVec Ideal S48x2048x10 .f32))))) : FVec Ideal S48x2048x10x128 .f32) := by
  simp only [hostOps0_2, StableHlo.after_cons, StableHlo.after_nil]
  after_results_simp

/-- The third stretch clips that product. -/
theorem q3 (w : StoreT) : StableHlo.after (hostOps0_3 (F := Ideal)) w main_v79 = (minimumf (broadcastInDim S48x2048x10x128 ![] bcast_S_S48x2048x10x128 (w main_cst_12 : FVec Ideal S_ .f32)) (maximumf (broadcastInDim S48x2048x10x128 ![] bcast_S_S48x2048x10x128 (w main_cst_11 : FVec Ideal S_ .f32)) (w main_v78 : FVec Ideal S48x2048x10x128 .f32)) : FVec Ideal S48x2048x10x128 .f32) := by
  simp only [hostOps0_3, StableHlo.after_cons, StableHlo.after_nil]
  after_results_simp
  rfl

/-- The fourth stretch joins the blocks of the clipped product. -/
theorem q4 (w : StoreT) : StableHlo.after (hostOps0_4 (F := Ideal)) w main_v80 = shapeCast S48x2048x1280 (w main_v79) shapeCasts_S48x2048x10x128_S48x2048x1280 := by
  simp only [hostOps0_4, StableHlo.after_cons, StableHlo.after_nil]
  after_results_simp
  rfl

/-- The array that selects says which scaled block maxima are below the smallest normal float. -/
theorem v62_W (c : Dev nD) : W m c main_v62 = cmpf CmpFPredicate.olt (uT (W m c main_v54)) (broadcastInDim S48x2048x10 ![] bcast_S_S48x2048x10 (constant S_ FTy.f32 8388608#32)) := by
  simp only [W, hostOps0, StableHlo.after_cons, StableHlo.after_nil]
  after_results_simp
  rfl

/-- The array of exponents before the selection is `expT` of the scaled block maxima. -/
theorem v69_W (c : Dev nD) : W m c main_v69 = expT (uT (W m c main_v54)) := by
  simp only [W, hostOps0, StableHlo.after_cons, StableHlo.after_nil]
  after_results_simp
  rfl

/-- The value selected for the small blocks is the constant zero. -/
theorem cst8_W (c : Dev nD) : W m c main_cst_8 = (constant S_ FTy.f32 0#32 : FVec Ideal S_ .f32) := by
  simp only [W, hostOps0, StableHlo.after_cons, StableHlo.after_nil]
  after_results_simp

/-- The gradient split in blocks is the gradient reshaped. -/
theorem v54_W (c : Dev nD) : W m c main_v54 = shapeCast S48x2048x10x128 (W m c main_v53) shapeCasts_S48x2048x1280_S48x2048x10x128 := by
  simp only [W, hostOps0, StableHlo.after_cons, StableHlo.after_nil]
  after_results_simp
  rfl

/-- An entry of the reduction by maximum is the maximum over the 128 entries of the block. -/
theorem max_at (Q : FVec Ideal S48x2048x10x128 .f32) (z : FVec Ideal S_ .f32) (B : Fin 48) (T : Fin 2048) (q : Fin 10) :
    (Host.reduce (FloatOps.maximumf (F := Ideal) (φ := .f32)) Q z reducesTo_S48x2048x10x128_S48x2048x10_d3 h_S_ (ix3 B T q) : EReal)
      = Finset.univ.fold max (z (Shape.Idx.first h_S_)) fun l : Fin 128 => Q (ix4 B T q l) := by
  simp only [pointwise]

/-- An entry of the scaled and capped block maxima. -/
theorem u2 (R : FVec Ideal S48x2048x10 .f32) (B : Fin 48) (T : Fin 2048) (q : Fin 10) :
    (minimumf (mulf R (broadcastInDim S48x2048x10 ![] bcast_S_S48x2048x10 (constant S_ FTy.f32 932333861#32)))
    (broadcastInDim S48x2048x10 ![] bcast_S_S48x2048x10 (constant S_ FTy.f32 2139095039#32)) (ix3 B T q) : EReal)
      = min (R (ix3 B T q) * Ideal.ofBits FTy.f32 932333861#32) (Ideal.ofBits FTy.f32 2139095039#32) := by
  pointwise

/-- An entry of the transposed powers of two. -/
theorem sc2 (E : FVec Ideal S48x2048x10 .f32) (B : Fin 48) (T : Fin 2048) (q : Fin 10) :
    (transpose S10x48x2048 [2, 0, 1]
      (Host.powf (broadcastInDim S48x2048x10 ![] bcast_S_S48x2048x10 (constant S_ FTy.f32 1073741824#32)) E) transposes_S48x2048x10_S10x48x2048_2_0_1 (ix3 q B T) : EReal)
      = Ideal.pow (Ideal.ofBits FTy.f32 1073741824#32) (E (ix3 B T q)) := by
  pointwise

/-- The sum over the first two axes at `j` is the double sum over batch and position. -/
theorem sum01 (v : FVec Ideal S48x2048x1280 .f32) (j : Fin 1280) :
    (Ideal.hostReduceAdd reducesTo_S48x2048x1280_S1280_d0_1 v 0 (ix1 j) : EReal) = ∑ B : Fin 48, ∑ T : Fin 2048, v (ix3 B T j) := by
  rw [show (Ideal.hostReduceAdd reducesTo_S48x2048x1280_S1280_d0_1 v 0 (ix1 j) : EReal) = 0 + ∑ i ∈ Finset.univ.filter (fun i => reducesTo_S48x2048x1280_S1280_d0_1.drop i = ix1 j), v i from rfl, zero_add]
  refine (Finset.sum_filter_eq_sum_of_fiber _ (fun k : Fin 48 × Fin 2048 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The arguments as core `c` has them. -/
def args (c : Dev nD) : Cert.Goal.Args where
  x := m (c, Proc.tc.devRef main_arg0)
  dy := m (c, Proc.tc.devRef main_arg1)
  mean := m (c, Proc.tc.devRef main_arg2)
  r := m (c, Proc.tc.devRef main_arg3)
  g := m (c, Proc.tc.devRef main_arg4)
  n := m (c, Proc.tc.devRef main_arg5)
  pg := m (c, Proc.tc.devRef main_arg6)
  px := m (c, Proc.tc.devRef main_arg7)

/-- Entry `l` of block `q` of the split gradient is the entry at column `col q l`. -/
theorem v54_at (Q : FVec Ideal S48x2048x1280 .f32) (B : Fin 48) (T : Fin 2048) (q : Fin 10) (l : Fin 128) :
    (shapeCast S48x2048x10x128 Q shapeCasts_S48x2048x1280_S48x2048x10x128 (ix4 B T q l) : EReal) = Q (ix3 B T (col q l)) := by
  pointwise
  rfl

/-- The reference's gradient, entry by entry, is `Args.dx`. -/
theorem dx_at (c : Dev nD) (B : Fin 48) (T : Fin 2048) (h : Fin 1280) : (W m c main_v53 (ix3 B T h) : EReal) = (args m c).dx B T h := by
  simp only [W, hostOps0, StableHlo.after_cons, StableHlo.after_nil]
  after_results_simp
  pointwise
  rfl

/-- The reference's dbeta, entry by entry, is `Args.dbeta`. -/
theorem beta_at (c : Dev nD) (j : Fin 1280) : (V m c main_v86 (ix2 0 j) : EReal) = (args m c).dbeta j := by
  refine Eq.trans ?_ (sum01 (m (c, Proc.tc.devRef main_arg1)) j)
  show StableHlo.after [hostOps0, hostOps0_1, hostOps0_2, hostOps0_3, hostOps0_4].flatten _ _ _ = _
  simp only [hostOps0, hostOps0_1, hostOps0_2, hostOps0_3, hostOps0_4, List.flatten_cons, List.flatten_nil, List.append_nil, List.cons_append, List.nil_append, StableHlo.after_cons, StableHlo.after_nil]
  after_results_simp
  pointwise
  rfl

/-- The reference's dgamma, entry by entry, is `Args.dgamma`. -/
theorem gamma_at (c : Dev nD) (j : Fin 1280) : (V m c main_v84 (ix2 0 j) : EReal) = (args m c).dgamma j := by
  refine Eq.trans ?_ (sum01 (fun y => (args m c).dy y * (((args m c).x y - (args m c).mean (ix2 (y 0) (y 1))) * (args m c).r (ix2 (y 0) (y 1)))) j)
  show StableHlo.after [hostOps0, hostOps0_1, hostOps0_2, hostOps0_3, hostOps0_4].flatten _ _ _ = _
  simp only [hostOps0, hostOps0_1, hostOps0_2, hostOps0_3, hostOps0_4, List.flatten_cons, List.flatten_nil, List.append_nil, List.cons_append, List.nil_append, StableHlo.after_cons, StableHlo.after_nil]
  after_results_simp
  pointwise
  refine congrArg (fun v => Ideal.hostReduceAdd reducesTo_S48x2048x1280_S1280_d0_1 v 0 (ix1 j)) (funext fun y => ?_)
  rw [eq_ix3 y]
  pointwise
  rfl

/-- An entry of the array of absolute values is the absolute value of the entry. -/
theorem absf_at (Q : FVec Ideal S48x2048x10x128 .f32) (B : Fin 48) (T : Fin 2048) (q : Fin 10) (l : Fin 128) :
    (Host.absf Q (ix4 B T q l) : EReal) = FloatOps.absf (F := Ideal) (φ := .f32) (Q (ix4 B T q l)) := by
  pointwise

/-- The split gradient, entry by entry, is `Args.dx` at column `col q l`. -/
theorem v54_dx (c : Dev nD) (B : Fin 48) (T : Fin 2048) (q : Fin 10) (l : Fin 128) : (W m c main_v54 (ix4 B T q l) : EReal) = (args m c).dx B T (col q l) :=
  (congrFun (v54_W m c) (ix4 B T q l)).trans ((v54_at _ B T q l).trans (dx_at m c B T (col q l)))

/-- An entry of `uT`, for a split array whose entries are `d`. -/
theorem u_of (Q : FVec Ideal S48x2048x10x128 .f32) (d : Fin 48 → Fin 2048 → Fin 1280 → EReal) (h : ∀ B T q l, (Q (ix4 B T q l) : EReal) = d B T (col q l))
    (B : Fin 48) (T : Fin 2048) (q : Fin 10) :
    (uT Q (ix3 B T q) : EReal) = min (absmax (fun l => d B T (col q l)) * Ideal.ofBits FTy.f32 932333861#32) (Ideal.ofBits FTy.f32 2139095039#32) := by
  unfold uT
  refine (u2 _ B T q).trans ?_
  have e : (Host.reduce (FloatOps.maximumf (F := Ideal) (φ := .f32)) (Host.absf Q) (constant (F := Ideal) S_ FTy.f32 4286578688#32) reducesTo_S48x2048x10x128_S48x2048x10_d3 h_S_ (ix3 B T q) : EReal)
      = absmax (fun l => d B T (col q l)) := by
    rw [max_at (Host.absf Q)]
    unfold absmax
    rw [show (fun l : Fin 128 => (Host.absf Q (ix4 B T q l) : EReal)) = fun l => FloatOps.absf (F := Ideal) (φ := .f32) (d B T (col q l)) from
      funext fun l => (absf_at Q B T q l).trans (congrArg _ (h B T q l))]
    rfl
  rw [e]

/-- An entry of the scaled block maxima is that of `Args.dx`'s block. -/
theorem uT_at (c : Dev nD) (B : Fin 48) (T : Fin 2048) (q : Fin 10) :
    (uT (W m c main_v54) (ix3 B T q) : EReal)
      = min (absmax (fun l => (args m c).dx B T (col q l)) * Ideal.ofBits FTy.f32 932333861#32) (Ideal.ofBits FTy.f32 2139095039#32) :=
  u_of (W m c main_v54) (args m c).dx (v54_dx m c) B T q

/-- An entry of the selected exponents: zero below the smallest normal float, one more than the floor of the logarithm to base two otherwise. -/
theorem sel_at (U : FVec Ideal S48x2048x10 .f32) (B : Fin 48) (T : Fin 2048) (q : Fin 10) :
    (selT (cmpf CmpFPredicate.olt U (broadcastInDim S48x2048x10 ![] bcast_S_S48x2048x10 (constant S_ FTy.f32 8388608#32))) (constant S_ FTy.f32 0#32) (expT U) (ix3 B T q) : EReal)
      = if (U (ix3 B T q) : EReal) < Ideal.ofBits FTy.f32 8388608#32 then 0
        else Ideal.liftRound Int.floor (Ideal.div (Ideal.log (U (ix3 B T q))) (Ideal.log (Ideal.ofBits FTy.f32 1073741824#32))) + 1 := by
  unfold selT expT
  pointwise

/-- The exponents. -/
def E (c : Dev nD) : FVec Ideal S48x2048x10 .f32 := selT (W m c main_v62) (W m c main_cst_8) (W m c main_v69)

/-- The exponents, entry by entry, are `Args.ex`. -/
theorem E_at (c : Dev nD) (B : Fin 48) (T : Fin 2048) (q : Fin 10) : (E m c (ix3 B T q) : EReal) = (args m c).ex B T q := by
  unfold E
  rw [v62_W, v69_W, cst8_W, sel_at, uT_at]
  rfl

/-- The reference's scales, entry by entry, are `Args.scale`. -/
theorem scales_at (c : Dev nD) (q : Fin 10) (B : Fin 48) (T : Fin 2048) : (V m c main_v81 (ix3 q B T) : EReal) = (args m c).scale q B T := by
  rw [scales_W]
  refine (sc2 (E m c) B T q).trans ?_
  rw [E_at]
  rfl

/-- An entry of the joined array is the entry of its block. -/
theorem c4 (Q : FVec Ideal S48x2048x10x128 .f32) (B : Fin 48) (T : Fin 2048) (h : Fin 1280) :
    (shapeCast S48x2048x1280 Q shapeCasts_S48x2048x10x128_S48x2048x1280 (ix3 B T h) : EReal) = Q (ix4 B T ⟨h.val / 128, by omega⟩ ⟨h.val % 128, by omega⟩) := by
  pointwise

/-- An entry of the clipped array is the entry, clipped. -/
theorem c3 (Q : FVec Ideal S48x2048x10x128 .f32) (a b : FVec Ideal S_ .f32) (B : Fin 48) (T : Fin 2048) (q : Fin 10) (l : Fin 128) :
    (minimumf (broadcastInDim S48x2048x10x128 ![] bcast_S_S48x2048x10x128 b) (maximumf (broadcastInDim S48x2048x10x128 ![] bcast_S_S48x2048x10x128 a) Q) (ix4 B T q l) : EReal)
      = min (b ix0) (max (a ix0) (Q (ix4 B T q l))) := by
  pointwise

/-- An entry of the product with the inverse scales. -/
theorem c2 (Q : FVec Ideal S48x2048x10x128 .f32) (E : FVec Ideal S48x2048x10 .f32) (B : Fin 48) (T : Fin 2048) (q : Fin 10) (l : Fin 128) :
    (mulf Q (broadcastInDim S48x2048x10x128 ![0, 1, 2, 3] bcast_S48x2048x10x1_S48x2048x10x128_0_1_2_3 (broadcastInDim S48x2048x10x1 ![0, 1, 2] bcast_S48x2048x10_S48x2048x10x1_0_1_2 (Host.powf (broadcastInDim S48x2048x10 ![] bcast_S_S48x2048x10 (constant S_ FTy.f32 1073741824#32)) (Host.negf E)))) (ix4 B T q l) : EReal)
      = Q (ix4 B T q l) * Ideal.pow (Ideal.ofBits FTy.f32 1073741824#32) (-(E (ix3 B T q))) := by
  pointwise

/-- The lower bound of the clip is minus the largest code. -/
theorem k11 (w : StoreT) : StableHlo.after (hostOps0_2 (F := Ideal)) w main_cst_11 = (constant S_ FTy.f32 3344957440#32 : FVec Ideal S_ .f32) := by
  simp only [hostOps0_2, StableHlo.after_cons, StableHlo.after_nil]
  after_results_simp

/-- The upper bound of the clip is the largest code. -/
theorem k12 (w : StoreT) : StableHlo.after (hostOps0_2 (F := Ideal)) w main_cst_12 = (constant S_ FTy.f32 1197473792#32 : FVec Ideal S_ .f32) := by
  simp only [hostOps0_2, StableHlo.after_cons, StableHlo.after_nil]
  after_results_simp

/-- The first stretch after `W` leaves the split gradient as it is. -/
theorem k54 (w : StoreT) : StableHlo.after (hostOps0_1 (F := Ideal)) w main_v54 = w main_v54 := by
  simp only [hostOps0_1, StableHlo.after_cons, StableHlo.after_nil]
  after_results_simp

/-- What the reference casts to codes, entry by entry, is `Args.code`. -/
theorem codes_at (c : Dev nD) (B : Fin 48) (T : Fin 2048) (h : Fin 1280) : (V m c main_v80 (ix3 B T h) : EReal) = (args m c).code B T h := by
  have e : V m c main_v80 = StableHlo.after (hostOps0_4 (F := Ideal)) (StableHlo.after hostOps0_3 (StableHlo.after hostOps0_2 (StableHlo.after hostOps0_1 (W m c)))) main_v80 := by
    rw [V_eq]
    simp only [List.flatten_cons, List.flatten_nil, List.append_nil, StableHlo.after_append]
  rw [e, q4]
  refine (c4 _ B T h).trans ?_
  rw [q3]
  refine (c3 _ _ _ B T _ _).trans ?_
  rw [q2, k11, k12]
  refine congrArg (fun z : EReal => min _ (max _ z)) ?_
  refine (c2 _ _ B T _ _).trans ?_
  rw [q1, k54, v54_W]
  refine congrArg₂ (fun u v : EReal => u * Ideal.pow _ (-v)) ?_ (E_at m c B T _)
  refine (v54_at _ B T _ _).trans ?_
  rw [show col ⟨h.val / 128, by omega⟩ ⟨h.val % 128, by omega⟩ = h from Fin.ext (by show h.val / 128 * 128 + h.val % 128 = h.val; omega)]
  exact dx_at m c B T h

end Cert.ReferenceIdeal.Val

end
-- ==== Proof.Finite.lean ====
/-
  What the precondition says: every argument's elements are real numbers and the number of features over all ranks is not zero.
-/
module

public import proofs.«01_k».proof.Pre_finite_inputs
public import proofs.«01_k».proof.Proof.Quant
public import Idealize.ShloMosaic.Lib.ReduceAll
public import Idealize.ShloMosaic.Lib.Affine
public import Idealize.ShloMosaic.Lib.Pipeline.ValueKit

@[expose] public section

noncomputable section

namespace Cert.Fin

open Idealize.ShloMosaic Cert.Pre_finite_inputs Cert.KernelIdeal.Val

theorem and_one {a b : BitVec 1} : IntOp.andi a b = 1#1 → a = 1#1 ∧ b = 1#1 := by revert a b; decide

theorem ofBits_inf : Ideal.ofBits FTy.f32 0x7F800000#32 = ⊤ := by
  simp [Ideal.ofBits, Ideal.ieee]

theorem ofBool_one {p : Prop} [Decidable p] (h : BitVec.ofBool (decide p) = 1#1) : p := by
  by_contra hp
  rw [decide_eq_false hp] at h
  exact absurd h (by decide)

/-- A number whose absolute value is under the infinite bound is real. -/
theorem isFin_of_lt {x : EReal} (h : FloatOps.cmpf (F := Ideal) (φ := .f32) .olt (max x (-x) : EReal) (Ideal.ofBits .f32 0x7F800000#32) = 1#1) : IsFin x := by
  have h' : max x (-x) < (Ideal.ofBits FTy.f32 0x7F800000#32 : EReal) := ofBool_one h
  rw [ofBits_inf] at h'
  induction x using EReal.rec with
  | bot => simp at h'
  | top => simp at h'
  | coe r => exact ⟨r, rfl⟩

/-- The shape facts the precondition's operations take. -/
theorem facts : Facts := by
  constructor <;> decide

variable [Facts]
open Facts

theorem reads (x dy : FVec Ideal S48x2048x1280 .bf16) (mean r : FVec Ideal S48x2048 .f32) (g : FVec Ideal S1280 .f32) (n : FVec Ideal S3 .f32)
    (pg px : FVec Ideal S3x48x2048 .f32) (h : fn (F := Ideal) x dy mean r g n pg px (fun a => a.elim0) = 1#1) :
    (∀ i, IsFin (x i)) ∧ (∀ i, IsFin (dy i)) ∧ (∀ i, IsFin (mean i)) ∧ (∀ i, IsFin (r i)) ∧ (∀ i, IsFin (g i)) ∧ (∀ i, IsFin (n i))
      ∧ (∀ i, IsFin (pg i)) ∧ (∀ i, IsFin (px i)) ∧ ((n (ix1 0) + n (ix1 1)) + n (ix1 2)) + Ideal.ofBits FTy.f32 1151336448#32 ≠ (0 : EReal) := by
  simp only [fn, fn_part1, fn_part2] at h
  obtain ⟨h, hn⟩ := and_one h
  obtain ⟨h, hpx⟩ := and_one h
  obtain ⟨h, hpg⟩ := and_one h
  obtain ⟨h, hpc⟩ := and_one h
  obtain ⟨h, hg⟩ := and_one h
  obtain ⟨h, hr⟩ := and_one h
  obtain ⟨h, hm⟩ := and_one h
  obtain ⟨hx, hdy⟩ := and_one h
  refine ⟨fun i => isFin_of_lt (Host.reduce_andi_all _ _ _ _ _ hx i), fun i => isFin_of_lt (Host.reduce_andi_all _ _ _ _ _ hdy i),
    fun i => isFin_of_lt (Host.reduce_andi_all _ _ _ _ _ hm i), fun i => isFin_of_lt (Host.reduce_andi_all _ _ _ _ _ hr i),
    fun i => isFin_of_lt (Host.reduce_andi_all _ _ _ _ _ hg i), fun i => isFin_of_lt (Host.reduce_andi_all _ _ _ _ _ hpc i),
    fun i => isFin_of_lt (Host.reduce_andi_all _ _ _ _ _ hpg i), fun i => isFin_of_lt (Host.reduce_andi_all _ _ _ _ _ hpx i), ?_⟩
  have hn' := ofBool_one hn
  pointwise at hn'
  simpa using hn'

end Cert.Fin

end
-- ==== Proof.Alg.lean ====
module

public import proofs.«01_k».proof.Defs
public import proofs.«01_k».proof.Proof.ArrV
public import proofs.«01_k».proof.Proof.RefV
public import proofs.«01_k».proof.Proof.Finite

/-!
Kernel and reference leave the same four arrays.
-/

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic

variable (m : (ℓ : Loc nD τ sig) → Buf (Elt Ideal) ℓ)

/-- The one step of the cast reads the array from its first entry. -/
theorem idxIn : ∀ t : Fin cfg0.N, win0_0.index t = ![0, 0, 0] := (by decide +kernel : ∀ t : Fin grid0.N, _)
/-- The one step of the cast writes the array from its first entry. -/
theorem idxOut : ∀ t : Fin cfg0.N, win0_1.index t = ![0, 0, 0] := (by decide +kernel : ∀ t : Fin grid0.N, _)

/-- The one block the reference's last step reads is the whole array. -/
theorem rd (t : Fin cfg0.N) (X : FVec Ideal S48x2048x1280 .f32) (B : Fin 48) (T : Fin 2048) (h : Fin 1280) :
    (((cfg0.win 0).blk t).view.read (Elt Ideal) X (ix3 B T h) : EReal) = X (ix3 B T h) := by
  show X ((win0_0.blk t).view.emb (ix3 B T h)) = _
  blk_ext [idxIn t]

/-- What the reference's last step reads at an index. -/
theorem in_pt (c : Dev nD) (t : Fin cfg0.N) (B : Fin 48) (T : Fin 2048) (h : Fin 1280) :
    (iblk m c 0 t (ix3 B T h) : EReal) = (args m c).code B T h :=
  (rd t (V m c main_v80) B T h).trans (codes_at m c B T h)

/-- What the reference's last step leaves at an index: the code there. -/
theorem out_pt (c : Dev nD) (t : Fin cfg0.N) (y : S48x2048x1280.Idx) :
    (out0_1 (iblk m c 0 t) y : EReal) = (args m c).codes ((win0_1.blk t).view.emb y) := by
  refine (Cert.ReferenceIdeal.Value.canon1_eq _ y).trans ?_
  have e : r0_0.idx (Cert.ReferenceIdeal.Value.ix1_0 y) = ix3 (y 0) (y 1) (y 2) :=
    (Cert.KernelIdeal.Val.ix3_eq (by show (y 0).val = 0 + 1 * (y 0).val; omega) (by show (y 1).val = 0 + 1 * (y 1).val; omega)
      (by show (y 2).val = 0 + 1 * (y 2).val; omega)).symm
  refine Eq.trans (congrArg (iblk m c 0 t) e) ((in_pt m c t (y 0) (y 1) (y 2)).trans ?_)
  refine congr (congr (congrArg (args m c).code ?_) ?_) ?_ <;> refine Fin.ext ?_ <;> blk_simp [idxOut t]

/-- The reference's codes at the end of a run. -/
theorem codes_arr (c : Dev nD) : (dats m 0 c).arrAt 1 cfg0.N = (args m c).codes := by
  refine (dats m 0 c).arrAt_eq_of_covers 1 _ (by decide +kernel) fun t hf y => ?_
  blk_simp
  rw [after0_1]
  exact out_pt m c t y

/-- The four results of a run of the reference. -/
theorem results (c : Dev nD) {r : PUnit × MemSt nD τ sig (Elt Ideal)} (h : Pipeline.FramePost cfgs (dats m) 0 (V m) r) :
    r.2.mem ((c.tc : Thread nD τ).loc main_v87) = (args m c).codes
      ∧ r.2.mem ((c.tc : Thread nD τ).loc main_v81) = (args m c).scales
      ∧ r.2.mem ((c.tc : Thread nD τ).loc main_v84) = (args m c).dgammas
      ∧ r.2.mem ((c.tc : Thread nD τ).loc main_v86) = (args m c).dbetas := by
  refine ⟨(Cert.ReferenceIdeal.Value.post1 m r h c).trans (codes_arr m c),
    ((h c).2 main_v81 (Pipeline.mem_restRefs_of main_v81 (by decide) (by decide))).trans (funext fun y => ?_),
    ((h c).2 main_v84 (Pipeline.mem_restRefs_of main_v84 (by decide) (by decide))).trans (funext fun y => ?_),
    ((h c).2 main_v86 (Pipeline.mem_restRefs_of main_v86 (by decide) (by decide))).trans (funext fun y => ?_)⟩
  · exact (congrArg (V m c main_v81) (eq_ix3 y)).trans (scales_at m c (y 0) (y 1) (y 2))
  · refine (congrArg (V m c main_v84) (show y = ix2 0 (y 1) from ?_)).trans (gamma_at m c (y 1))
    exact (Cert.KernelIdeal.Val.ix2_eq (by have : (y 0).val < 1 := (y 0).isLt; omega) rfl).symm
  · refine (congrArg (V m c main_v86) (show y = ix2 0 (y 1) from ?_)).trans (beta_at m c (y 1))
    exact (Cert.KernelIdeal.Val.ix2_eq (by have : (y 0).val < 1 := (y 0).isLt; omega) rfl).symm

end Cert.ReferenceIdeal.Val

namespace Cert.Proof

open Idealize.ShloMosaic Idealize.SL.Sem

/-- The precondition makes the kernel's arguments real and the number of features nonzero. -/
theorem good (m : (ℓ : Loc Cert.KernelIdeal.nD Cert.KernelIdeal.τ Cert.KernelIdeal.sig) → Buf (Elt Ideal) ℓ)
    (h : Cert.Pre_KernelIdeal_finite_inputs (hPre_finite_inputs := Cert.Fin.facts) m) (c : Dev Cert.KernelIdeal.nD) :
    (Cert.KernelIdeal.Val.args m c).Good := by
  let _ := Cert.Fin.facts
  have e := Cert.Fin.reads _ _ _ _ _ _ _ _ (congrFun (h c) _)
  exact ⟨e.1, e.2.1, e.2.2.1, e.2.2.2.1, e.2.2.2.2.1, e.2.2.2.2.2.1, e.2.2.2.2.2.2.1, e.2.2.2.2.2.2.2.1, e.2.2.2.2.2.2.2.2⟩

/-- Launched on the same arguments, both programs read the same ones. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Val.args m' c = Cert.KernelIdeal.Val.args m c := by
  unfold Cert.ReferenceIdeal.Val.args Cert.KernelIdeal.Val.args
  congr 1

/-- Kernel and reference, run over exact numbers on the same arguments, end with the same codes, scales, gamma gradient and beta gradient. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Fin.facts) := by
  intro m g m' g' hpre hagree
  refine ⟨fun c => (Cert.KernelIdeal.Val.args m c).codes, fun c => (Cert.KernelIdeal.Val.args m c).scales,
    fun c => (Cert.KernelIdeal.Val.args m c).dgammas, fun c => (Cert.KernelIdeal.Val.args m c).dbetas, ?_, ?_⟩
  · refine (θ_run _ _ _).mono (fun r h c => ?_) (θ_run_and (Cert.KernelIdeal.Val.run_rel m g)
      (Cert.KernelIdeal.Hand.frame_of_rel m g _ (Cert.KernelIdeal.Val.A_eq m) (Cert.KernelIdeal.Val.run_rel m g)))
    obtain ⟨h1, h2⟩ := h
    obtain ⟨e1, e2, e3, e4⟩ := Cert.KernelIdeal.Val.results m c (good m hpre c) h1
    exact ⟨e1, e2, e3, e4, h2 c⟩
  · refine (θ_run _ _ _).mono (fun r h c => ?_) (Cert.ReferenceIdeal.Gen.run_main m' g')
    obtain ⟨h0, h1, h2, h3, h4, h5, h6, h7⟩ := hagree c
    have e := args_eq m m' c h0 h1 h2 h3 h4 h5 h6 h7
    obtain ⟨e1, e2, e3, e4⟩ := Cert.ReferenceIdeal.Val.results m' c h
    rw [e] at e1 e2 e3 e4
    exact ⟨e1, e2, e3, e4, Cert.ReferenceIdeal.Value.kept_main_arg0 m' r h c, Cert.ReferenceIdeal.Value.kept_main_arg1 m' r h c,
      Cert.ReferenceIdeal.Value.kept_main_arg2 m' r h c, Cert.ReferenceIdeal.Value.kept_main_arg3 m' r h c,
      Cert.ReferenceIdeal.Value.kept_main_arg4 m' r h c, Cert.ReferenceIdeal.Value.kept_main_arg5 m' r h c,
      Cert.ReferenceIdeal.Value.kept_main_arg6 m' r h c, Cert.ReferenceIdeal.Value.kept_main_arg7 m' r h c⟩

end Cert.Proof

end
-- ==== Proof.lean ====
/-
  The claims about the layer-norm backward kernel: the frame of each program, and that over exact numbers kernel and reference leave the same results.
-/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.FrameK
public import proofs.«01_k».proof.Proof.FrameI
public import proofs.«01_k».proof.Proof.Alg
public import Idealize.ShloMosaic.Adequacy
public import Idealize.ShloMosaic.Init

@[expose] public section

noncomputable section

namespace Cert.Proof

open Idealize.ShloMosaic Idealize.SL.Sem

/-- Every claim of this certificate: the frame of each program, that the idealization keeps the program, and that the kernel over exact numbers leaves
    the reference's four results. -/
theorem claim : Cert.Claim := ⟨Cert.Kernel.Gen.facts, Cert.KernelIdeal.Gen.facts, Cert.ReferenceIdeal.Gen.facts, Cert.Fin.facts,
  fun m ρ _ => Cert.Kernel.Hand.frame_claim m ρ, fun m ρ _ => Cert.KernelIdeal.Hand.frame_claim m ρ, fun m ρ _ => Cert.KernelIdeal.Hand.frame_claim m ρ,
  fun m ρ _ => Cert.ReferenceIdeal.Gen.frame m ρ, fun m ρ _ => Cert.ReferenceIdeal.Gen.frame m ρ, trivial, algebraic⟩

end Cert.Proof

end
